-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![16384]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024 : Shape := ⟨1, ![1024]⟩
abbrev S16x4096 : Shape := ⟨2, ![16, 4096]⟩
abbrev S8 : Shape := ⟨1, ![8]⟩
abbrev S32 : Shape := ⟨1, ![32]⟩
abbrev S16 : Shape := ⟨1, ![16]⟩
abbrev S_ : Shape := ⟨0, ![]⟩
abbrev S1 : Shape := ⟨1, ![1]⟩
abbrev S512x1024 : Shape := ⟨2, ![512, 1024]⟩
abbrev S512 : Shape := ⟨1, ![512]⟩
abbrev S1x512 : Shape := ⟨2, ![1, 512]⟩
abbrev S1x2048 : Shape := ⟨2, ![1, 2048]⟩
abbrev S2048 : Shape := ⟨1, ![2048]⟩
abbrev S16x512 : Shape := ⟨2, ![16, 512]⟩
abbrev S512x1 : Shape := ⟨2, ![512, 1]⟩
abbrev S1x1024 : Shape := ⟨2, ![1, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .bf16⟩
  | .local _ .vmem, ⟨0, _⟩ => ⟨S1024, .f32⟩
  | .local _ .vmem, ⟨1, _⟩ => ⟨S4096x1024, .f32⟩
  | .local _ .vmem, ⟨2, _⟩ => ⟨S4096x1024, .bf16⟩
  | .local _ .vmem, ⟨3, _⟩ => ⟨S16x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  (ofTc nBuf bufTy 17 81 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 16

abbrev nD : Nat := 16
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v4 : BitVec 32 := Scalar.subi v2 c1_i32_2
  let c16_i32_3 : BitVec 32 := 16#32
  let c0_i32 : BitVec 32 := 0#32
  let v5 : BitVec 1 := Scalar.cmpi .eq c16_i32_3 c0_i32
  let c1_i32_4 : BitVec 32 := 1#32
  let v6 : BitVec 32 := Scalar.select v5 c1_i32_4 c16_i32_3
  let v7 : BitVec 32 := Scalar.remsi v4 v6
  let c0_i32_6 : BitVec 32 := 0#32
  let v9 : BitVec 1 := Scalar.cmpi .slt v7 c0_i32_6
  let c0_i32_7 : BitVec 32 := 0#32
  let v10 : BitVec 1 := Scalar.cmpi .slt v6 c0_i32_7
  let v11 : BitVec 1 := Scalar.xori v9 v10
  let c0_i32_5 : BitVec 32 := 0#32
  let v8 : BitVec 1 := Scalar.cmpi .ne v7 c0_i32_5
  let v12 : BitVec 1 := Scalar.andi v11 v8
  let v13 : BitVec 32 := Scalar.addi v7 v6
  let v14 : BitVec 32 := Scalar.select v12 v13 v7
  let c1_i32_10 : BitVec 32 := 1#32
  let v17 : BitVec 32 := Scalar.muli v14 c1_i32_10
  let v18 : BitVec 32 := Scalar.addi c0_i32_11 v17
  v18.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v19 : BitVec 32 := Scalar.subi v2 c2_i32
  let c16_i32_12 : BitVec 32 := 16#32
  let c0_i32_13 : BitVec 32 := 0#32
  let v20 : BitVec 1 := Scalar.cmpi .eq c16_i32_12 c0_i32_13
  let c1_i32_14 : BitVec 32 := 1#32
  let v21 : BitVec 32 := Scalar.select v20 c1_i32_14 c16_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_20 : BitVec 32 := 1#32
  let v32 : BitVec 32 := Scalar.muli v29 c1_i32_20
  let v33 : BitVec 32 := Scalar.addi c0_i32_21 v32
  v33.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v34 : BitVec 32 := Scalar.subi v2 c3_i32
  let c16_i32_22 : BitVec 32 := 16#32
  let c0_i32_23 : BitVec 32 := 0#32
  let v35 : BitVec 1 := Scalar.cmpi .eq c16_i32_22 c0_i32_23
  let c1_i32_24 : BitVec 32 := 1#32
  let v36 : BitVec 32 := Scalar.select v35 c1_i32_24 c16_i32_22
  let v37 : BitVec 32 := Scalar.remsi v34 v36
  let c0_i32_26 : BitVec 32 := 0#32
  let v39 : BitVec 1 := Scalar.cmpi .slt v37 c0_i32_26
  let c0_i32_27 : BitVec 32 := 0#32
  let v40 : BitVec 1 := Scalar.cmpi .slt v36 c0_i32_27
  let v41 : BitVec 1 := Scalar.xori v39 v40
  let c0_i32_25 : BitVec 32 := 0#32
  let v38 : BitVec 1 := Scalar.cmpi .ne v37 c0_i32_25
  let v42 : BitVec 1 := Scalar.andi v41 v38
  let v43 : BitVec 32 := Scalar.addi v37 v36
  let v44 : BitVec 32 := Scalar.select v42 v43 v37
  let c1_i32_30 : BitVec 32 := 1#32
  let v47 : BitVec 32 := Scalar.muli v44 c1_i32_30
  let v48 : BitVec 32 := Scalar.addi c0_i32_31 v47
  v48.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v49 : BitVec 32 := Scalar.subi v2 c4_i32
  let c16_i32_32 : BitVec 32 := 16#32
  let c0_i32_33 : BitVec 32 := 0#32
  let v50 : BitVec 1 := Scalar.cmpi .eq c16_i32_32 c0_i32_33
  let c1_i32_34 : BitVec 32 := 1#32
  let v51 : BitVec 32 := Scalar.select v50 c1_i32_34 c16_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_40 : BitVec 32 := 1#32
  let v62 : BitVec 32 := Scalar.muli v59 c1_i32_40
  let v63 : BitVec 32 := Scalar.addi c0_i32_41 v62
  v63.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v64 : BitVec 32 := Scalar.subi v2 c5_i32
  let c16_i32_42 : BitVec 32 := 16#32
  let c0_i32_43 : BitVec 32 := 0#32
  let v65 : BitVec 1 := Scalar.cmpi .eq c16_i32_42 c0_i32_43
  let c1_i32_44 : BitVec 32 := 1#32
  let v66 : BitVec 32 := Scalar.select v65 c1_i32_44 c16_i32_42
  let v67 : BitVec 32 := Scalar.remsi v64 v66
  let c0_i32_46 : BitVec 32 := 0#32
  let v69 : BitVec 1 := Scalar.cmpi .slt v67 c0_i32_46
  let c0_i32_47 : BitVec 32 := 0#32
  let v70 : BitVec 1 := Scalar.cmpi .slt v66 c0_i32_47
  let v71 : BitVec 1 := Scalar.xori v69 v70
  let c0_i32_45 : BitVec 32 := 0#32
  let v68 : BitVec 1 := Scalar.cmpi .ne v67 c0_i32_45
  let v72 : BitVec 1 := Scalar.andi v71 v68
  let v73 : BitVec 32 := Scalar.addi v67 v66
  let v74 : BitVec 32 := Scalar.select v72 v73 v67
  let c1_i32_50 : BitVec 32 := 1#32
  let v77 : BitVec 32 := Scalar.muli v74 c1_i32_50
  let v78 : BitVec 32 := Scalar.addi c0_i32_51 v77
  v78.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v79 : BitVec 32 := Scalar.subi v2 c6_i32
  let c16_i32_52 : BitVec 32 := 16#32
  let c0_i32_53 : BitVec 32 := 0#32
  let v80 : BitVec 1 := Scalar.cmpi .eq c16_i32_52 c0_i32_53
  let c1_i32_54 : BitVec 32 := 1#32
  let v81 : BitVec 32 := Scalar.select v80 c1_i32_54 c16_i32_52
  let v82 : BitVec 32 := Scalar.remsi v79 v81
  let c0_i32_56 : BitVec 32 := 0#32
  let v84 : BitVec 1 := Scalar.cmpi .slt v82 c0_i32_56
  let c0_i32_57 : BitVec 32 := 0#32
  let v85 : BitVec 1 := Scalar.cmpi .slt v81 c0_i32_57
  let v86 : BitVec 1 := Scalar.xori v84 v85
  let c0_i32_55 : BitVec 32 := 0#32
  let v83 : BitVec 1 := Scalar.cmpi .ne v82 c0_i32_55
  let v87 : BitVec 1 := Scalar.andi v86 v83
  let v88 : BitVec 32 := Scalar.addi v82 v81
  let v89 : BitVec 32 := Scalar.select v87 v88 v82
  let c1_i32_60 : BitVec 32 := 1#32
  let v92 : BitVec 32 := Scalar.muli v89 c1_i32_60
  let v93 : BitVec 32 := Scalar.addi c0_i32_61 v92
  v93.toNat
def k0_dev7 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v94 : BitVec 32 := Scalar.subi v2 c7_i32
  let c16_i32_62 : BitVec 32 := 16#32
  let c0_i32_63 : BitVec 32 := 0#32
  let v95 : BitVec 1 := Scalar.cmpi .eq c16_i32_62 c0_i32_63
  let c1_i32_64 : BitVec 32 := 1#32
  let v96 : BitVec 32 := Scalar.select v95 c1_i32_64 c16_i32_62
  let v97 : BitVec 32 := Scalar.remsi v94 v96
  let c0_i32_66 : BitVec 32 := 0#32
  let v99 : BitVec 1 := Scalar.cmpi .slt v97 c0_i32_66
  let c0_i32_67 : BitVec 32 := 0#32
  let v100 : BitVec 1 := Scalar.cmpi .slt v96 c0_i32_67
  let v101 : BitVec 1 := Scalar.xori v99 v100
  let c0_i32_65 : BitVec 32 := 0#32
  let v98 : BitVec 1 := Scalar.cmpi .ne v97 c0_i32_65
  let v102 : BitVec 1 := Scalar.andi v101 v98
  let v103 : BitVec 32 := Scalar.addi v97 v96
  let v104 : BitVec 32 := Scalar.select v102 v103 v97
  let c1_i32_70 : BitVec 32 := 1#32
  let v107 : BitVec 32 := Scalar.muli v104 c1_i32_70
  let v108 : BitVec 32 := Scalar.addi c0_i32_71 v107
  v108.toNat
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v109 : BitVec 32 := Scalar.subi v2 c8_i32
  let c16_i32_72 : BitVec 32 := 16#32
  let c0_i32_73 : BitVec 32 := 0#32
  let v110 : BitVec 1 := Scalar.cmpi .eq c16_i32_72 c0_i32_73
  let c1_i32_74 : BitVec 32 := 1#32
  let v111 : BitVec 32 := Scalar.select v110 c1_i32_74 c16_i32_72
  let v112 : BitVec 32 := Scalar.remsi v109 v111
  let c0_i32_76 : BitVec 32 := 0#32
  let v114 : BitVec 1 := Scalar.cmpi .slt v112 c0_i32_76
  let c0_i32_77 : BitVec 32 := 0#32
  let v115 : BitVec 1 := Scalar.cmpi .slt v111 c0_i32_77
  let v116 : BitVec 1 := Scalar.xori v114 v115
  let c0_i32_75 : BitVec 32 := 0#32
  let v113 : BitVec 1 := Scalar.cmpi .ne v112 c0_i32_75
  let v117 : BitVec 1 := Scalar.andi v116 v113
  let v118 : BitVec 32 := Scalar.addi v112 v111
  let v119 : BitVec 32 := Scalar.select v117 v118 v112
  let c1_i32_80 : BitVec 32 := 1#32
  let v122 : BitVec 32 := Scalar.muli v119 c1_i32_80
  let v123 : BitVec 32 := Scalar.addi c0_i32_81 v122
  v123.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v124 : BitVec 32 := Scalar.subi v2 c9_i32
  let c16_i32_82 : BitVec 32 := 16#32
  let c0_i32_83 : BitVec 32 := 0#32
  let v125 : BitVec 1 := Scalar.cmpi .eq c16_i32_82 c0_i32_83
  let c1_i32_84 : BitVec 32 := 1#32
  let v126 : BitVec 32 := Scalar.select v125 c1_i32_84 c16_i32_82
  let v127 : BitVec 32 := Scalar.remsi v124 v126
  let c0_i32_86 : BitVec 32 := 0#32
  let v129 : BitVec 1 := Scalar.cmpi .slt v127 c0_i32_86
  let c0_i32_87 : BitVec 32 := 0#32
  let v130 : BitVec 1 := Scalar.cmpi .slt v126 c0_i32_87
  let v131 : BitVec 1 := Scalar.xori v129 v130
  let c0_i32_85 : BitVec 32 := 0#32
  let v128 : BitVec 1 := Scalar.cmpi .ne v127 c0_i32_85
  let v132 : BitVec 1 := Scalar.andi v131 v128
  let v133 : BitVec 32 := Scalar.addi v127 v126
  let v134 : BitVec 32 := Scalar.select v132 v133 v127
  let c1_i32_90 : BitVec 32 := 1#32
  let v137 : BitVec 32 := Scalar.muli v134 c1_i32_90
  let v138 : BitVec 32 := Scalar.addi c0_i32_91 v137
  v138.toNat
def k0_dev10 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v139 : BitVec 32 := Scalar.subi v2 c10_i32
  let c16_i32_92 : BitVec 32 := 16#32
  let c0_i32_93 : BitVec 32 := 0#32
  let v140 : BitVec 1 := Scalar.cmpi .eq c16_i32_92 c0_i32_93
  let c1_i32_94 : BitVec 32 := 1#32
  let v141 : BitVec 32 := Scalar.select v140 c1_i32_94 c16_i32_92
  let v142 : BitVec 32 := Scalar.remsi v139 v141
  let c0_i32_96 : BitVec 32 := 0#32
  let v144 : BitVec 1 := Scalar.cmpi .slt v142 c0_i32_96
  let c0_i32_97 : BitVec 32 := 0#32
  let v145 : BitVec 1 := Scalar.cmpi .slt v141 c0_i32_97
  let v146 : BitVec 1 := Scalar.xori v144 v145
  let c0_i32_95 : BitVec 32 := 0#32
  let v143 : BitVec 1 := Scalar.cmpi .ne v142 c0_i32_95
  let v147 : BitVec 1 := Scalar.andi v146 v143
  let v148 : BitVec 32 := Scalar.addi v142 v141
  let v149 : BitVec 32 := Scalar.select v147 v148 v142
  let c1_i32_100 : BitVec 32 := 1#32
  let v152 : BitVec 32 := Scalar.muli v149 c1_i32_100
  let v153 : BitVec 32 := Scalar.addi c0_i32_101 v152
  v153.toNat
def k0_dev11 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v154 : BitVec 32 := Scalar.subi v2 c11_i32
  let c16_i32_102 : BitVec 32 := 16#32
  let c0_i32_103 : BitVec 32 := 0#32
  let v155 : BitVec 1 := Scalar.cmpi .eq c16_i32_102 c0_i32_103
  let c1_i32_104 : BitVec 32 := 1#32
  let v156 : BitVec 32 := Scalar.select v155 c1_i32_104 c16_i32_102
  let v157 : BitVec 32 := Scalar.remsi v154 v156
  let c0_i32_106 : BitVec 32 := 0#32
  let v159 : BitVec 1 := Scalar.cmpi .slt v157 c0_i32_106
  let c0_i32_107 : BitVec 32 := 0#32
  let v160 : BitVec 1 := Scalar.cmpi .slt v156 c0_i32_107
  let v161 : BitVec 1 := Scalar.xori v159 v160
  let c0_i32_105 : BitVec 32 := 0#32
  let v158 : BitVec 1 := Scalar.cmpi .ne v157 c0_i32_105
  let v162 : BitVec 1 := Scalar.andi v161 v158
  let v163 : BitVec 32 := Scalar.addi v157 v156
  let v164 : BitVec 32 := Scalar.select v162 v163 v157
  let c1_i32_110 : BitVec 32 := 1#32
  let v167 : BitVec 32 := Scalar.muli v164 c1_i32_110
  let v168 : BitVec 32 := Scalar.addi c0_i32_111 v167
  v168.toNat
def k0_dev12 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v169 : BitVec 32 := Scalar.subi v2 c12_i32
  let c16_i32_112 : BitVec 32 := 16#32
  let c0_i32_113 : BitVec 32 := 0#32
  let v170 : BitVec 1 := Scalar.cmpi .eq c16_i32_112 c0_i32_113
  let c1_i32_114 : BitVec 32 := 1#32
  let v171 : BitVec 32 := Scalar.select v170 c1_i32_114 c16_i32_112
  let v172 : BitVec 32 := Scalar.remsi v169 v171
  let c0_i32_116 : BitVec 32 := 0#32
  let v174 : BitVec 1 := Scalar.cmpi .slt v172 c0_i32_116
  let c0_i32_117 : BitVec 32 := 0#32
  let v175 : BitVec 1 := Scalar.cmpi .slt v171 c0_i32_117
  let v176 : BitVec 1 := Scalar.xori v174 v175
  let c0_i32_115 : BitVec 32 := 0#32
  let v173 : BitVec 1 := Scalar.cmpi .ne v172 c0_i32_115
  let v177 : BitVec 1 := Scalar.andi v176 v173
  let v178 : BitVec 32 := Scalar.addi v172 v171
  let v179 : BitVec 32 := Scalar.select v177 v178 v172
  let c1_i32_120 : BitVec 32 := 1#32
  let v182 : BitVec 32 := Scalar.muli v179 c1_i32_120
  let v183 : BitVec 32 := Scalar.addi c0_i32_121 v182
  v183.toNat
def k0_dev13 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v184 : BitVec 32 := Scalar.subi v2 c13_i32
  let c16_i32_122 : BitVec 32 := 16#32
  let c0_i32_123 : BitVec 32 := 0#32
  let v185 : BitVec 1 := Scalar.cmpi .eq c16_i32_122 c0_i32_123
  let c1_i32_124 : BitVec 32 := 1#32
  let v186 : BitVec 32 := Scalar.select v185 c1_i32_124 c16_i32_122
  let v187 : BitVec 32 := Scalar.remsi v184 v186
  let c0_i32_126 : BitVec 32 := 0#32
  let v189 : BitVec 1 := Scalar.cmpi .slt v187 c0_i32_126
  let c0_i32_127 : BitVec 32 := 0#32
  let v190 : BitVec 1 := Scalar.cmpi .slt v186 c0_i32_127
  let v191 : BitVec 1 := Scalar.xori v189 v190
  let c0_i32_125 : BitVec 32 := 0#32
  let v188 : BitVec 1 := Scalar.cmpi .ne v187 c0_i32_125
  let v192 : BitVec 1 := Scalar.andi v191 v188
  let v193 : BitVec 32 := Scalar.addi v187 v186
  let v194 : BitVec 32 := Scalar.select v192 v193 v187
  let c1_i32_130 : BitVec 32 := 1#32
  let v197 : BitVec 32 := Scalar.muli v194 c1_i32_130
  let v198 : BitVec 32 := Scalar.addi c0_i32_131 v197
  v198.toNat
def k0_dev14 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v199 : BitVec 32 := Scalar.subi v2 c14_i32
  let c16_i32_132 : BitVec 32 := 16#32
  let c0_i32_133 : BitVec 32 := 0#32
  let v200 : BitVec 1 := Scalar.cmpi .eq c16_i32_132 c0_i32_133
  let c1_i32_134 : BitVec 32 := 1#32
  let v201 : BitVec 32 := Scalar.select v200 c1_i32_134 c16_i32_132
  let v202 : BitVec 32 := Scalar.remsi v199 v201
  let c0_i32_136 : BitVec 32 := 0#32
  let v204 : BitVec 1 := Scalar.cmpi .slt v202 c0_i32_136
  let c0_i32_137 : BitVec 32 := 0#32
  let v205 : BitVec 1 := Scalar.cmpi .slt v201 c0_i32_137
  let v206 : BitVec 1 := Scalar.xori v204 v205
  let c0_i32_135 : BitVec 32 := 0#32
  let v203 : BitVec 1 := Scalar.cmpi .ne v202 c0_i32_135
  let v207 : BitVec 1 := Scalar.andi v206 v203
  let v208 : BitVec 32 := Scalar.addi v202 v201
  let v209 : BitVec 32 := Scalar.select v207 v208 v202
  let c1_i32_140 : BitVec 32 := 1#32
  let v212 : BitVec 32 := Scalar.muli v209 c1_i32_140
  let v213 : BitVec 32 := Scalar.addi c0_i32_141 v212
  v213.toNat
def k0_dev15 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v214 : BitVec 32 := Scalar.subi v2 c15_i32
  let c16_i32_142 : BitVec 32 := 16#32
  let c0_i32_143 : BitVec 32 := 0#32
  let v215 : BitVec 1 := Scalar.cmpi .eq c16_i32_142 c0_i32_143
  let c1_i32_144 : BitVec 32 := 1#32
  let v216 : BitVec 32 := Scalar.select v215 c1_i32_144 c16_i32_142
  let v217 : BitVec 32 := Scalar.remsi v214 v216
  let c0_i32_146 : BitVec 32 := 0#32
  let v219 : BitVec 1 := Scalar.cmpi .slt v217 c0_i32_146
  let c0_i32_147 : BitVec 32 := 0#32
  let v220 : BitVec 1 := Scalar.cmpi .slt v216 c0_i32_147
  let v221 : BitVec 1 := Scalar.xori v219 v220
  let c0_i32_145 : BitVec 32 := 0#32
  let v218 : BitVec 1 := Scalar.cmpi .ne v217 c0_i32_145
  let v222 : BitVec 1 := Scalar.andi v221 v218
  let v223 : BitVec 32 := Scalar.addi v217 v216
  let v224 : BitVec 32 := Scalar.select v222 v223 v217
  let c1_i32_150 : BitVec 32 := 1#32
  let v227 : BitVec 32 := Scalar.muli v224 c1_i32_150
  let v228 : BitVec 32 := Scalar.addi c0_i32_151 v227
  v228.toNat
def k0_dev16 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_220 : BitVec 32 := 1#32
  let v301 : BitVec 32 := Scalar.addi v2 c1_i32_220
  let c16_i32_221 : BitVec 32 := 16#32
  let c0_i32_222 : BitVec 32 := 0#32
  let v302 : BitVec 1 := Scalar.cmpi .eq c16_i32_221 c0_i32_222
  let c1_i32_223 : BitVec 32 := 1#32
  let v303 : BitVec 32 := Scalar.select v302 c1_i32_223 c16_i32_221
  let v304 : BitVec 32 := Scalar.remsi v301 v303
  let c0_i32_225 : BitVec 32 := 0#32
  let v306 : BitVec 1 := Scalar.cmpi .slt v304 c0_i32_225
  let c0_i32_226 : BitVec 32 := 0#32
  let v307 : BitVec 1 := Scalar.cmpi .slt v303 c0_i32_226
  let v308 : BitVec 1 := Scalar.xori v306 v307
  let c0_i32_224 : BitVec 32 := 0#32
  let v305 : BitVec 1 := Scalar.cmpi .ne v304 c0_i32_224
  let v309 : BitVec 1 := Scalar.andi v308 v305
  let v310 : BitVec 32 := Scalar.addi v304 v303
  let v311 : BitVec 32 := Scalar.select v309 v310 v304
  let c1_i32_234 : BitVec 32 := 1#32
  let v314 : BitVec 32 := Scalar.muli v311 c1_i32_234
  let v315 : BitVec 32 := Scalar.addi c0_i32_235 v314
  v315.toNat
def k0_dev17 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_238 : BitVec 32 := 2#32
  let v324 : BitVec 32 := Scalar.addi v2 c2_i32_238
  let c16_i32_239 : BitVec 32 := 16#32
  let c0_i32_240 : BitVec 32 := 0#32
  let v325 : BitVec 1 := Scalar.cmpi .eq c16_i32_239 c0_i32_240
  let c1_i32_241 : BitVec 32 := 1#32
  let v326 : BitVec 32 := Scalar.select v325 c1_i32_241 c16_i32_239
  let v327 : BitVec 32 := Scalar.remsi v324 v326
  let c0_i32_243 : BitVec 32 := 0#32
  let v329 : BitVec 1 := Scalar.cmpi .slt v327 c0_i32_243
  let c0_i32_244 : BitVec 32 := 0#32
  let v330 : BitVec 1 := Scalar.cmpi .slt v326 c0_i32_244
  let v331 : BitVec 1 := Scalar.xori v329 v330
  let c0_i32_242 : BitVec 32 := 0#32
  let v328 : BitVec 1 := Scalar.cmpi .ne v327 c0_i32_242
  let v332 : BitVec 1 := Scalar.andi v331 v328
  let v333 : BitVec 32 := Scalar.addi v327 v326
  let v334 : BitVec 32 := Scalar.select v332 v333 v327
  let c1_i32_252 : BitVec 32 := 1#32
  let v337 : BitVec 32 := Scalar.muli v334 c1_i32_252
  let v338 : BitVec 32 := Scalar.addi c0_i32_253 v337
  v338.toNat
def k0_dev18 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_256 : BitVec 32 := 3#32
  let v347 : BitVec 32 := Scalar.addi v2 c3_i32_256
  let c16_i32_257 : BitVec 32 := 16#32
  let c0_i32_258 : BitVec 32 := 0#32
  let v348 : BitVec 1 := Scalar.cmpi .eq c16_i32_257 c0_i32_258
  let c1_i32_259 : BitVec 32 := 1#32
  let v349 : BitVec 32 := Scalar.select v348 c1_i32_259 c16_i32_257
  let v350 : BitVec 32 := Scalar.remsi v347 v349
  let c0_i32_261 : BitVec 32 := 0#32
  let v352 : BitVec 1 := Scalar.cmpi .slt v350 c0_i32_261
  let c0_i32_262 : BitVec 32 := 0#32
  let v353 : BitVec 1 := Scalar.cmpi .slt v349 c0_i32_262
  let v354 : BitVec 1 := Scalar.xori v352 v353
  let c0_i32_260 : BitVec 32 := 0#32
  let v351 : BitVec 1 := Scalar.cmpi .ne v350 c0_i32_260
  let v355 : BitVec 1 := Scalar.andi v354 v351
  let v356 : BitVec 32 := Scalar.addi v350 v349
  let v357 : BitVec 32 := Scalar.select v355 v356 v350
  let c1_i32_270 : BitVec 32 := 1#32
  let v360 : BitVec 32 := Scalar.muli v357 c1_i32_270
  let v361 : BitVec 32 := Scalar.addi c0_i32_271 v360
  v361.toNat
def k0_dev19 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_274 : BitVec 32 := 4#32
  let v370 : BitVec 32 := Scalar.addi v2 c4_i32_274
  let c16_i32_275 : BitVec 32 := 16#32
  let c0_i32_276 : BitVec 32 := 0#32
  let v371 : BitVec 1 := Scalar.cmpi .eq c16_i32_275 c0_i32_276
  let c1_i32_277 : BitVec 32 := 1#32
  let v372 : BitVec 32 := Scalar.select v371 c1_i32_277 c16_i32_275
  let v373 : BitVec 32 := Scalar.remsi v370 v372
  let c0_i32_279 : BitVec 32 := 0#32
  let v375 : BitVec 1 := Scalar.cmpi .slt v373 c0_i32_279
  let c0_i32_280 : BitVec 32 := 0#32
  let v376 : BitVec 1 := Scalar.cmpi .slt v372 c0_i32_280
  let v377 : BitVec 1 := Scalar.xori v375 v376
  let c0_i32_278 : BitVec 32 := 0#32
  let v374 : BitVec 1 := Scalar.cmpi .ne v373 c0_i32_278
  let v378 : BitVec 1 := Scalar.andi v377 v374
  let v379 : BitVec 32 := Scalar.addi v373 v372
  let v380 : BitVec 32 := Scalar.select v378 v379 v373
  let c1_i32_288 : BitVec 32 := 1#32
  let v383 : BitVec 32 := Scalar.muli v380 c1_i32_288
  let v384 : BitVec 32 := Scalar.addi c0_i32_289 v383
  v384.toNat
def k0_dev20 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_292 : BitVec 32 := 5#32
  let v393 : BitVec 32 := Scalar.addi v2 c5_i32_292
  let c16_i32_293 : BitVec 32 := 16#32
  let c0_i32_294 : BitVec 32 := 0#32
  let v394 : BitVec 1 := Scalar.cmpi .eq c16_i32_293 c0_i32_294
  let c1_i32_295 : BitVec 32 := 1#32
  let v395 : BitVec 32 := Scalar.select v394 c1_i32_295 c16_i32_293
  let v396 : BitVec 32 := Scalar.remsi v393 v395
  let c0_i32_297 : BitVec 32 := 0#32
  let v398 : BitVec 1 := Scalar.cmpi .slt v396 c0_i32_297
  let c0_i32_298 : BitVec 32 := 0#32
  let v399 : BitVec 1 := Scalar.cmpi .slt v395 c0_i32_298
  let v400 : BitVec 1 := Scalar.xori v398 v399
  let c0_i32_296 : BitVec 32 := 0#32
  let v397 : BitVec 1 := Scalar.cmpi .ne v396 c0_i32_296
  let v401 : BitVec 1 := Scalar.andi v400 v397
  let v402 : BitVec 32 := Scalar.addi v396 v395
  let v403 : BitVec 32 := Scalar.select v401 v402 v396
  let c1_i32_306 : BitVec 32 := 1#32
  let v406 : BitVec 32 := Scalar.muli v403 c1_i32_306
  let v407 : BitVec 32 := Scalar.addi c0_i32_307 v406
  v407.toNat
def k0_dev21 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_310 : BitVec 32 := 6#32
  let v416 : BitVec 32 := Scalar.addi v2 c6_i32_310
  let c16_i32_311 : BitVec 32 := 16#32
  let c0_i32_312 : BitVec 32 := 0#32
  let v417 : BitVec 1 := Scalar.cmpi .eq c16_i32_311 c0_i32_312
  let c1_i32_313 : BitVec 32 := 1#32
  let v418 : BitVec 32 := Scalar.select v417 c1_i32_313 c16_i32_311
  let v419 : BitVec 32 := Scalar.remsi v416 v418
  let c0_i32_315 : BitVec 32 := 0#32
  let v421 : BitVec 1 := Scalar.cmpi .slt v419 c0_i32_315
  let c0_i32_316 : BitVec 32 := 0#32
  let v422 : BitVec 1 := Scalar.cmpi .slt v418 c0_i32_316
  let v423 : BitVec 1 := Scalar.xori v421 v422
  let c0_i32_314 : BitVec 32 := 0#32
  let v420 : BitVec 1 := Scalar.cmpi .ne v419 c0_i32_314
  let v424 : BitVec 1 := Scalar.andi v423 v420
  let v425 : BitVec 32 := Scalar.addi v419 v418
  let v426 : BitVec 32 := Scalar.select v424 v425 v419
  let c1_i32_324 : BitVec 32 := 1#32
  let v429 : BitVec 32 := Scalar.muli v426 c1_i32_324
  let v430 : BitVec 32 := Scalar.addi c0_i32_325 v429
  v430.toNat
def k0_dev22 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_328 : BitVec 32 := 7#32
  let v439 : BitVec 32 := Scalar.addi v2 c7_i32_328
  let c16_i32_329 : BitVec 32 := 16#32
  let c0_i32_330 : BitVec 32 := 0#32
  let v440 : BitVec 1 := Scalar.cmpi .eq c16_i32_329 c0_i32_330
  let c1_i32_331 : BitVec 32 := 1#32
  let v441 : BitVec 32 := Scalar.select v440 c1_i32_331 c16_i32_329
  let v442 : BitVec 32 := Scalar.remsi v439 v441
  let c0_i32_333 : BitVec 32 := 0#32
  let v444 : BitVec 1 := Scalar.cmpi .slt v442 c0_i32_333
  let c0_i32_334 : BitVec 32 := 0#32
  let v445 : BitVec 1 := Scalar.cmpi .slt v441 c0_i32_334
  let v446 : BitVec 1 := Scalar.xori v444 v445
  let c0_i32_332 : BitVec 32 := 0#32
  let v443 : BitVec 1 := Scalar.cmpi .ne v442 c0_i32_332
  let v447 : BitVec 1 := Scalar.andi v446 v443
  let v448 : BitVec 32 := Scalar.addi v442 v441
  let v449 : BitVec 32 := Scalar.select v447 v448 v442
  let c1_i32_342 : BitVec 32 := 1#32
  let v452 : BitVec 32 := Scalar.muli v449 c1_i32_342
  let v453 : BitVec 32 := Scalar.addi c0_i32_343 v452
  v453.toNat
def k0_dev23 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_346 : BitVec 32 := 8#32
  let v462 : BitVec 32 := Scalar.addi v2 c8_i32_346
  let c16_i32_347 : BitVec 32 := 16#32
  let c0_i32_348 : BitVec 32 := 0#32
  let v463 : BitVec 1 := Scalar.cmpi .eq c16_i32_347 c0_i32_348
  let c1_i32_349 : BitVec 32 := 1#32
  let v464 : BitVec 32 := Scalar.select v463 c1_i32_349 c16_i32_347
  let v465 : BitVec 32 := Scalar.remsi v462 v464
  let c0_i32_351 : BitVec 32 := 0#32
  let v467 : BitVec 1 := Scalar.cmpi .slt v465 c0_i32_351
  let c0_i32_352 : BitVec 32 := 0#32
  let v468 : BitVec 1 := Scalar.cmpi .slt v464 c0_i32_352
  let v469 : BitVec 1 := Scalar.xori v467 v468
  let c0_i32_350 : BitVec 32 := 0#32
  let v466 : BitVec 1 := Scalar.cmpi .ne v465 c0_i32_350
  let v470 : BitVec 1 := Scalar.andi v469 v466
  let v471 : BitVec 32 := Scalar.addi v465 v464
  let v472 : BitVec 32 := Scalar.select v470 v471 v465
  let c1_i32_360 : BitVec 32 := 1#32
  let v475 : BitVec 32 := Scalar.muli v472 c1_i32_360
  let v476 : BitVec 32 := Scalar.addi c0_i32_361 v475
  v476.toNat
def k0_dev24 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_364 : BitVec 32 := 9#32
  let v485 : BitVec 32 := Scalar.addi v2 c9_i32_364
  let c16_i32_365 : BitVec 32 := 16#32
  let c0_i32_366 : BitVec 32 := 0#32
  let v486 : BitVec 1 := Scalar.cmpi .eq c16_i32_365 c0_i32_366
  let c1_i32_367 : BitVec 32 := 1#32
  let v487 : BitVec 32 := Scalar.select v486 c1_i32_367 c16_i32_365
  let v488 : BitVec 32 := Scalar.remsi v485 v487
  let c0_i32_369 : BitVec 32 := 0#32
  let v490 : BitVec 1 := Scalar.cmpi .slt v488 c0_i32_369
  let c0_i32_370 : BitVec 32 := 0#32
  let v491 : BitVec 1 := Scalar.cmpi .slt v487 c0_i32_370
  let v492 : BitVec 1 := Scalar.xori v490 v491
  let c0_i32_368 : BitVec 32 := 0#32
  let v489 : BitVec 1 := Scalar.cmpi .ne v488 c0_i32_368
  let v493 : BitVec 1 := Scalar.andi v492 v489
  let v494 : BitVec 32 := Scalar.addi v488 v487
  let v495 : BitVec 32 := Scalar.select v493 v494 v488
  let c1_i32_378 : BitVec 32 := 1#32
  let v498 : BitVec 32 := Scalar.muli v495 c1_i32_378
  let v499 : BitVec 32 := Scalar.addi c0_i32_379 v498
  v499.toNat
def k0_dev25 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_382 : BitVec 32 := 10#32
  let v508 : BitVec 32 := Scalar.addi v2 c10_i32_382
  let c16_i32_383 : BitVec 32 := 16#32
  let c0_i32_384 : BitVec 32 := 0#32
  let v509 : BitVec 1 := Scalar.cmpi .eq c16_i32_383 c0_i32_384
  let c1_i32_385 : BitVec 32 := 1#32
  let v510 : BitVec 32 := Scalar.select v509 c1_i32_385 c16_i32_383
  let v511 : BitVec 32 := Scalar.remsi v508 v510
  let c0_i32_387 : BitVec 32 := 0#32
  let v513 : BitVec 1 := Scalar.cmpi .slt v511 c0_i32_387
  let c0_i32_388 : BitVec 32 := 0#32
  let v514 : BitVec 1 := Scalar.cmpi .slt v510 c0_i32_388
  let v515 : BitVec 1 := Scalar.xori v513 v514
  let c0_i32_386 : BitVec 32 := 0#32
  let v512 : BitVec 1 := Scalar.cmpi .ne v511 c0_i32_386
  let v516 : BitVec 1 := Scalar.andi v515 v512
  let v517 : BitVec 32 := Scalar.addi v511 v510
  let v518 : BitVec 32 := Scalar.select v516 v517 v511
  let c1_i32_396 : BitVec 32 := 1#32
  let v521 : BitVec 32 := Scalar.muli v518 c1_i32_396
  let v522 : BitVec 32 := Scalar.addi c0_i32_397 v521
  v522.toNat
def k0_dev26 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_400 : BitVec 32 := 11#32
  let v531 : BitVec 32 := Scalar.addi v2 c11_i32_400
  let c16_i32_401 : BitVec 32 := 16#32
  let c0_i32_402 : BitVec 32 := 0#32
  let v532 : BitVec 1 := Scalar.cmpi .eq c16_i32_401 c0_i32_402
  let c1_i32_403 : BitVec 32 := 1#32
  let v533 : BitVec 32 := Scalar.select v532 c1_i32_403 c16_i32_401
  let v534 : BitVec 32 := Scalar.remsi v531 v533
  let c0_i32_405 : BitVec 32 := 0#32
  let v536 : BitVec 1 := Scalar.cmpi .slt v534 c0_i32_405
  let c0_i32_406 : BitVec 32 := 0#32
  let v537 : BitVec 1 := Scalar.cmpi .slt v533 c0_i32_406
  let v538 : BitVec 1 := Scalar.xori v536 v537
  let c0_i32_404 : BitVec 32 := 0#32
  let v535 : BitVec 1 := Scalar.cmpi .ne v534 c0_i32_404
  let v539 : BitVec 1 := Scalar.andi v538 v535
  let v540 : BitVec 32 := Scalar.addi v534 v533
  let v541 : BitVec 32 := Scalar.select v539 v540 v534
  let c1_i32_414 : BitVec 32 := 1#32
  let v544 : BitVec 32 := Scalar.muli v541 c1_i32_414
  let v545 : BitVec 32 := Scalar.addi c0_i32_415 v544
  v545.toNat
def k0_dev27 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_418 : BitVec 32 := 12#32
  let v554 : BitVec 32 := Scalar.addi v2 c12_i32_418
  let c16_i32_419 : BitVec 32 := 16#32
  let c0_i32_420 : BitVec 32 := 0#32
  let v555 : BitVec 1 := Scalar.cmpi .eq c16_i32_419 c0_i32_420
  let c1_i32_421 : BitVec 32 := 1#32
  let v556 : BitVec 32 := Scalar.select v555 c1_i32_421 c16_i32_419
  let v557 : BitVec 32 := Scalar.remsi v554 v556
  let c0_i32_423 : BitVec 32 := 0#32
  let v559 : BitVec 1 := Scalar.cmpi .slt v557 c0_i32_423
  let c0_i32_424 : BitVec 32 := 0#32
  let v560 : BitVec 1 := Scalar.cmpi .slt v556 c0_i32_424
  let v561 : BitVec 1 := Scalar.xori v559 v560
  let c0_i32_422 : BitVec 32 := 0#32
  let v558 : BitVec 1 := Scalar.cmpi .ne v557 c0_i32_422
  let v562 : BitVec 1 := Scalar.andi v561 v558
  let v563 : BitVec 32 := Scalar.addi v557 v556
  let v564 : BitVec 32 := Scalar.select v562 v563 v557
  let c1_i32_432 : BitVec 32 := 1#32
  let v567 : BitVec 32 := Scalar.muli v564 c1_i32_432
  let v568 : BitVec 32 := Scalar.addi c0_i32_433 v567
  v568.toNat
def k0_dev28 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_436 : BitVec 32 := 13#32
  let v577 : BitVec 32 := Scalar.addi v2 c13_i32_436
  let c16_i32_437 : BitVec 32 := 16#32
  let c0_i32_438 : BitVec 32 := 0#32
  let v578 : BitVec 1 := Scalar.cmpi .eq c16_i32_437 c0_i32_438
  let c1_i32_439 : BitVec 32 := 1#32
  let v579 : BitVec 32 := Scalar.select v578 c1_i32_439 c16_i32_437
  let v580 : BitVec 32 := Scalar.remsi v577 v579
  let c0_i32_441 : BitVec 32 := 0#32
  let v582 : BitVec 1 := Scalar.cmpi .slt v580 c0_i32_441
  let c0_i32_442 : BitVec 32 := 0#32
  let v583 : BitVec 1 := Scalar.cmpi .slt v579 c0_i32_442
  let v584 : BitVec 1 := Scalar.xori v582 v583
  let c0_i32_440 : BitVec 32 := 0#32
  let v581 : BitVec 1 := Scalar.cmpi .ne v580 c0_i32_440
  let v585 : BitVec 1 := Scalar.andi v584 v581
  let v586 : BitVec 32 := Scalar.addi v580 v579
  let v587 : BitVec 32 := Scalar.select v585 v586 v580
  let c1_i32_450 : BitVec 32 := 1#32
  let v590 : BitVec 32 := Scalar.muli v587 c1_i32_450
  let v591 : BitVec 32 := Scalar.addi c0_i32_451 v590
  v591.toNat
def k0_dev29 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_454 : BitVec 32 := 14#32
  let v600 : BitVec 32 := Scalar.addi v2 c14_i32_454
  let c16_i32_455 : BitVec 32 := 16#32
  let c0_i32_456 : BitVec 32 := 0#32
  let v601 : BitVec 1 := Scalar.cmpi .eq c16_i32_455 c0_i32_456
  let c1_i32_457 : BitVec 32 := 1#32
  let v602 : BitVec 32 := Scalar.select v601 c1_i32_457 c16_i32_455
  let v603 : BitVec 32 := Scalar.remsi v600 v602
  let c0_i32_459 : BitVec 32 := 0#32
  let v605 : BitVec 1 := Scalar.cmpi .slt v603 c0_i32_459
  let c0_i32_460 : BitVec 32 := 0#32
  let v606 : BitVec 1 := Scalar.cmpi .slt v602 c0_i32_460
  let v607 : BitVec 1 := Scalar.xori v605 v606
  let c0_i32_458 : BitVec 32 := 0#32
  let v604 : BitVec 1 := Scalar.cmpi .ne v603 c0_i32_458
  let v608 : BitVec 1 := Scalar.andi v607 v604
  let v609 : BitVec 32 := Scalar.addi v603 v602
  let v610 : BitVec 32 := Scalar.select v608 v609 v603
  let c1_i32_468 : BitVec 32 := 1#32
  let v613 : BitVec 32 := Scalar.muli v610 c1_i32_468
  let v614 : BitVec 32 := Scalar.addi c0_i32_469 v613
  v614.toNat
def k0_dev30 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_472 : BitVec 32 := 15#32
  let v623 : BitVec 32 := Scalar.addi v2 c15_i32_472
  let c16_i32_473 : BitVec 32 := 16#32
  let c0_i32_474 : BitVec 32 := 0#32
  let v624 : BitVec 1 := Scalar.cmpi .eq c16_i32_473 c0_i32_474
  let c1_i32_475 : BitVec 32 := 1#32
  let v625 : BitVec 32 := Scalar.select v624 c1_i32_475 c16_i32_473
  let v626 : BitVec 32 := Scalar.remsi v623 v625
  let c0_i32_477 : BitVec 32 := 0#32
  let v628 : BitVec 1 := Scalar.cmpi .slt v626 c0_i32_477
  let c0_i32_478 : BitVec 32 := 0#32
  let v629 : BitVec 1 := Scalar.cmpi .slt v625 c0_i32_478
  let v630 : BitVec 1 := Scalar.xori v628 v629
  let c0_i32_476 : BitVec 32 := 0#32
  let v627 : BitVec 1 := Scalar.cmpi .ne v626 c0_i32_476
  let v631 : BitVec 1 := Scalar.andi v630 v627
  let v632 : BitVec 32 := Scalar.addi v626 v625
  let v633 : BitVec 32 := Scalar.select v631 v632 v626
  let c1_i32_486 : BitVec 32 := 1#32
  let v636 : BitVec 32 := Scalar.muli v633 c1_i32_486
  let v637 : BitVec 32 := Scalar.addi c0_i32_487 v636
  v637.toNat
def k0_dev31 (d0 : Dev nD) : Nat :=
  let c0_i32_537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_526 : BitVec 32 := 1#32
  let v686 : BitVec 32 := Scalar.addi v2 c1_i32_526
  let c16_i32_527 : BitVec 32 := 16#32
  let c0_i32_528 : BitVec 32 := 0#32
  let v687 : BitVec 1 := Scalar.cmpi .eq c16_i32_527 c0_i32_528
  let c1_i32_529 : BitVec 32 := 1#32
  let v688 : BitVec 32 := Scalar.select v687 c1_i32_529 c16_i32_527
  let v689 : BitVec 32 := Scalar.remsi v686 v688
  let c0_i32_531 : BitVec 32 := 0#32
  let v691 : BitVec 1 := Scalar.cmpi .slt v689 c0_i32_531
  let c0_i32_532 : BitVec 32 := 0#32
  let v692 : BitVec 1 := Scalar.cmpi .slt v688 c0_i32_532
  let v693 : BitVec 1 := Scalar.xori v691 v692
  let c0_i32_530 : BitVec 32 := 0#32
  let v690 : BitVec 1 := Scalar.cmpi .ne v689 c0_i32_530
  let v694 : BitVec 1 := Scalar.andi v693 v690
  let v695 : BitVec 32 := Scalar.addi v689 v688
  let v696 : BitVec 32 := Scalar.select v694 v695 v689
  let c1_i32_536 : BitVec 32 := 1#32
  let v697 : BitVec 32 := Scalar.muli v696 c1_i32_536
  let v698 : BitVec 32 := Scalar.addi c0_i32_537 v697
  v698.toNat
def k0_dev32 (d0 : Dev nD) : Nat :=
  let c0_i32_551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_540 : BitVec 32 := 2#32
  let v707 : BitVec 32 := Scalar.addi v2 c2_i32_540
  let c16_i32_541 : BitVec 32 := 16#32
  let c0_i32_542 : BitVec 32 := 0#32
  let v708 : BitVec 1 := Scalar.cmpi .eq c16_i32_541 c0_i32_542
  let c1_i32_543 : BitVec 32 := 1#32
  let v709 : BitVec 32 := Scalar.select v708 c1_i32_543 c16_i32_541
  let v710 : BitVec 32 := Scalar.remsi v707 v709
  let c0_i32_545 : BitVec 32 := 0#32
  let v712 : BitVec 1 := Scalar.cmpi .slt v710 c0_i32_545
  let c0_i32_546 : BitVec 32 := 0#32
  let v713 : BitVec 1 := Scalar.cmpi .slt v709 c0_i32_546
  let v714 : BitVec 1 := Scalar.xori v712 v713
  let c0_i32_544 : BitVec 32 := 0#32
  let v711 : BitVec 1 := Scalar.cmpi .ne v710 c0_i32_544
  let v715 : BitVec 1 := Scalar.andi v714 v711
  let v716 : BitVec 32 := Scalar.addi v710 v709
  let v717 : BitVec 32 := Scalar.select v715 v716 v710
  let c1_i32_550 : BitVec 32 := 1#32
  let v718 : BitVec 32 := Scalar.muli v717 c1_i32_550
  let v719 : BitVec 32 := Scalar.addi c0_i32_551 v718
  v719.toNat
def k0_dev33 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_554 : BitVec 32 := 3#32
  let v728 : BitVec 32 := Scalar.addi v2 c3_i32_554
  let c16_i32_555 : BitVec 32 := 16#32
  let c0_i32_556 : BitVec 32 := 0#32
  let v729 : BitVec 1 := Scalar.cmpi .eq c16_i32_555 c0_i32_556
  let c1_i32_557 : BitVec 32 := 1#32
  let v730 : BitVec 32 := Scalar.select v729 c1_i32_557 c16_i32_555
  let v731 : BitVec 32 := Scalar.remsi v728 v730
  let c0_i32_559 : BitVec 32 := 0#32
  let v733 : BitVec 1 := Scalar.cmpi .slt v731 c0_i32_559
  let c0_i32_560 : BitVec 32 := 0#32
  let v734 : BitVec 1 := Scalar.cmpi .slt v730 c0_i32_560
  let v735 : BitVec 1 := Scalar.xori v733 v734
  let c0_i32_558 : BitVec 32 := 0#32
  let v732 : BitVec 1 := Scalar.cmpi .ne v731 c0_i32_558
  let v736 : BitVec 1 := Scalar.andi v735 v732
  let v737 : BitVec 32 := Scalar.addi v731 v730
  let v738 : BitVec 32 := Scalar.select v736 v737 v731
  let c1_i32_564 : BitVec 32 := 1#32
  let v739 : BitVec 32 := Scalar.muli v738 c1_i32_564
  let v740 : BitVec 32 := Scalar.addi c0_i32_565 v739
  v740.toNat
def k0_dev34 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_568 : BitVec 32 := 4#32
  let v749 : BitVec 32 := Scalar.addi v2 c4_i32_568
  let c16_i32_569 : BitVec 32 := 16#32
  let c0_i32_570 : BitVec 32 := 0#32
  let v750 : BitVec 1 := Scalar.cmpi .eq c16_i32_569 c0_i32_570
  let c1_i32_571 : BitVec 32 := 1#32
  let v751 : BitVec 32 := Scalar.select v750 c1_i32_571 c16_i32_569
  let v752 : BitVec 32 := Scalar.remsi v749 v751
  let c0_i32_573 : BitVec 32 := 0#32
  let v754 : BitVec 1 := Scalar.cmpi .slt v752 c0_i32_573
  let c0_i32_574 : BitVec 32 := 0#32
  let v755 : BitVec 1 := Scalar.cmpi .slt v751 c0_i32_574
  let v756 : BitVec 1 := Scalar.xori v754 v755
  let c0_i32_572 : BitVec 32 := 0#32
  let v753 : BitVec 1 := Scalar.cmpi .ne v752 c0_i32_572
  let v757 : BitVec 1 := Scalar.andi v756 v753
  let v758 : BitVec 32 := Scalar.addi v752 v751
  let v759 : BitVec 32 := Scalar.select v757 v758 v752
  let c1_i32_578 : BitVec 32 := 1#32
  let v760 : BitVec 32 := Scalar.muli v759 c1_i32_578
  let v761 : BitVec 32 := Scalar.addi c0_i32_579 v760
  v761.toNat
def k0_dev35 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_582 : BitVec 32 := 5#32
  let v770 : BitVec 32 := Scalar.addi v2 c5_i32_582
  let c16_i32_583 : BitVec 32 := 16#32
  let c0_i32_584 : BitVec 32 := 0#32
  let v771 : BitVec 1 := Scalar.cmpi .eq c16_i32_583 c0_i32_584
  let c1_i32_585 : BitVec 32 := 1#32
  let v772 : BitVec 32 := Scalar.select v771 c1_i32_585 c16_i32_583
  let v773 : BitVec 32 := Scalar.remsi v770 v772
  let c0_i32_587 : BitVec 32 := 0#32
  let v775 : BitVec 1 := Scalar.cmpi .slt v773 c0_i32_587
  let c0_i32_588 : BitVec 32 := 0#32
  let v776 : BitVec 1 := Scalar.cmpi .slt v772 c0_i32_588
  let v777 : BitVec 1 := Scalar.xori v775 v776
  let c0_i32_586 : BitVec 32 := 0#32
  let v774 : BitVec 1 := Scalar.cmpi .ne v773 c0_i32_586
  let v778 : BitVec 1 := Scalar.andi v777 v774
  let v779 : BitVec 32 := Scalar.addi v773 v772
  let v780 : BitVec 32 := Scalar.select v778 v779 v773
  let c1_i32_592 : BitVec 32 := 1#32
  let v781 : BitVec 32 := Scalar.muli v780 c1_i32_592
  let v782 : BitVec 32 := Scalar.addi c0_i32_593 v781
  v782.toNat
def k0_dev36 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_596 : BitVec 32 := 6#32
  let v791 : BitVec 32 := Scalar.addi v2 c6_i32_596
  let c16_i32_597 : BitVec 32 := 16#32
  let c0_i32_598 : BitVec 32 := 0#32
  let v792 : BitVec 1 := Scalar.cmpi .eq c16_i32_597 c0_i32_598
  let c1_i32_599 : BitVec 32 := 1#32
  let v793 : BitVec 32 := Scalar.select v792 c1_i32_599 c16_i32_597
  let v794 : BitVec 32 := Scalar.remsi v791 v793
  let c0_i32_601 : BitVec 32 := 0#32
  let v796 : BitVec 1 := Scalar.cmpi .slt v794 c0_i32_601
  let c0_i32_602 : BitVec 32 := 0#32
  let v797 : BitVec 1 := Scalar.cmpi .slt v793 c0_i32_602
  let v798 : BitVec 1 := Scalar.xori v796 v797
  let c0_i32_600 : BitVec 32 := 0#32
  let v795 : BitVec 1 := Scalar.cmpi .ne v794 c0_i32_600
  let v799 : BitVec 1 := Scalar.andi v798 v795
  let v800 : BitVec 32 := Scalar.addi v794 v793
  let v801 : BitVec 32 := Scalar.select v799 v800 v794
  let c1_i32_606 : BitVec 32 := 1#32
  let v802 : BitVec 32 := Scalar.muli v801 c1_i32_606
  let v803 : BitVec 32 := Scalar.addi c0_i32_607 v802
  v803.toNat
def k0_dev37 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_610 : BitVec 32 := 7#32
  let v812 : BitVec 32 := Scalar.addi v2 c7_i32_610
  let c16_i32_611 : BitVec 32 := 16#32
  let c0_i32_612 : BitVec 32 := 0#32
  let v813 : BitVec 1 := Scalar.cmpi .eq c16_i32_611 c0_i32_612
  let c1_i32_613 : BitVec 32 := 1#32
  let v814 : BitVec 32 := Scalar.select v813 c1_i32_613 c16_i32_611
  let v815 : BitVec 32 := Scalar.remsi v812 v814
  let c0_i32_615 : BitVec 32 := 0#32
  let v817 : BitVec 1 := Scalar.cmpi .slt v815 c0_i32_615
  let c0_i32_616 : BitVec 32 := 0#32
  let v818 : BitVec 1 := Scalar.cmpi .slt v814 c0_i32_616
  let v819 : BitVec 1 := Scalar.xori v817 v818
  let c0_i32_614 : BitVec 32 := 0#32
  let v816 : BitVec 1 := Scalar.cmpi .ne v815 c0_i32_614
  let v820 : BitVec 1 := Scalar.andi v819 v816
  let v821 : BitVec 32 := Scalar.addi v815 v814
  let v822 : BitVec 32 := Scalar.select v820 v821 v815
  let c1_i32_620 : BitVec 32 := 1#32
  let v823 : BitVec 32 := Scalar.muli v822 c1_i32_620
  let v824 : BitVec 32 := Scalar.addi c0_i32_621 v823
  v824.toNat
def k0_dev38 (d0 : Dev nD) : Nat :=
  let c0_i32_635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_624 : BitVec 32 := 8#32
  let v833 : BitVec 32 := Scalar.addi v2 c8_i32_624
  let c16_i32_625 : BitVec 32 := 16#32
  let c0_i32_626 : BitVec 32 := 0#32
  let v834 : BitVec 1 := Scalar.cmpi .eq c16_i32_625 c0_i32_626
  let c1_i32_627 : BitVec 32 := 1#32
  let v835 : BitVec 32 := Scalar.select v834 c1_i32_627 c16_i32_625
  let v836 : BitVec 32 := Scalar.remsi v833 v835
  let c0_i32_629 : BitVec 32 := 0#32
  let v838 : BitVec 1 := Scalar.cmpi .slt v836 c0_i32_629
  let c0_i32_630 : BitVec 32 := 0#32
  let v839 : BitVec 1 := Scalar.cmpi .slt v835 c0_i32_630
  let v840 : BitVec 1 := Scalar.xori v838 v839
  let c0_i32_628 : BitVec 32 := 0#32
  let v837 : BitVec 1 := Scalar.cmpi .ne v836 c0_i32_628
  let v841 : BitVec 1 := Scalar.andi v840 v837
  let v842 : BitVec 32 := Scalar.addi v836 v835
  let v843 : BitVec 32 := Scalar.select v841 v842 v836
  let c1_i32_634 : BitVec 32 := 1#32
  let v844 : BitVec 32 := Scalar.muli v843 c1_i32_634
  let v845 : BitVec 32 := Scalar.addi c0_i32_635 v844
  v845.toNat
def k0_dev39 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_638 : BitVec 32 := 9#32
  let v854 : BitVec 32 := Scalar.addi v2 c9_i32_638
  let c16_i32_639 : BitVec 32 := 16#32
  let c0_i32_640 : BitVec 32 := 0#32
  let v855 : BitVec 1 := Scalar.cmpi .eq c16_i32_639 c0_i32_640
  let c1_i32_641 : BitVec 32 := 1#32
  let v856 : BitVec 32 := Scalar.select v855 c1_i32_641 c16_i32_639
  let v857 : BitVec 32 := Scalar.remsi v854 v856
  let c0_i32_643 : BitVec 32 := 0#32
  let v859 : BitVec 1 := Scalar.cmpi .slt v857 c0_i32_643
  let c0_i32_644 : BitVec 32 := 0#32
  let v860 : BitVec 1 := Scalar.cmpi .slt v856 c0_i32_644
  let v861 : BitVec 1 := Scalar.xori v859 v860
  let c0_i32_642 : BitVec 32 := 0#32
  let v858 : BitVec 1 := Scalar.cmpi .ne v857 c0_i32_642
  let v862 : BitVec 1 := Scalar.andi v861 v858
  let v863 : BitVec 32 := Scalar.addi v857 v856
  let v864 : BitVec 32 := Scalar.select v862 v863 v857
  let c1_i32_648 : BitVec 32 := 1#32
  let v865 : BitVec 32 := Scalar.muli v864 c1_i32_648
  let v866 : BitVec 32 := Scalar.addi c0_i32_649 v865
  v866.toNat
def k0_dev40 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_652 : BitVec 32 := 10#32
  let v875 : BitVec 32 := Scalar.addi v2 c10_i32_652
  let c16_i32_653 : BitVec 32 := 16#32
  let c0_i32_654 : BitVec 32 := 0#32
  let v876 : BitVec 1 := Scalar.cmpi .eq c16_i32_653 c0_i32_654
  let c1_i32_655 : BitVec 32 := 1#32
  let v877 : BitVec 32 := Scalar.select v876 c1_i32_655 c16_i32_653
  let v878 : BitVec 32 := Scalar.remsi v875 v877
  let c0_i32_657 : BitVec 32 := 0#32
  let v880 : BitVec 1 := Scalar.cmpi .slt v878 c0_i32_657
  let c0_i32_658 : BitVec 32 := 0#32
  let v881 : BitVec 1 := Scalar.cmpi .slt v877 c0_i32_658
  let v882 : BitVec 1 := Scalar.xori v880 v881
  let c0_i32_656 : BitVec 32 := 0#32
  let v879 : BitVec 1 := Scalar.cmpi .ne v878 c0_i32_656
  let v883 : BitVec 1 := Scalar.andi v882 v879
  let v884 : BitVec 32 := Scalar.addi v878 v877
  let v885 : BitVec 32 := Scalar.select v883 v884 v878
  let c1_i32_662 : BitVec 32 := 1#32
  let v886 : BitVec 32 := Scalar.muli v885 c1_i32_662
  let v887 : BitVec 32 := Scalar.addi c0_i32_663 v886
  v887.toNat
def k0_dev41 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_666 : BitVec 32 := 11#32
  let v896 : BitVec 32 := Scalar.addi v2 c11_i32_666
  let c16_i32_667 : BitVec 32 := 16#32
  let c0_i32_668 : BitVec 32 := 0#32
  let v897 : BitVec 1 := Scalar.cmpi .eq c16_i32_667 c0_i32_668
  let c1_i32_669 : BitVec 32 := 1#32
  let v898 : BitVec 32 := Scalar.select v897 c1_i32_669 c16_i32_667
  let v899 : BitVec 32 := Scalar.remsi v896 v898
  let c0_i32_671 : BitVec 32 := 0#32
  let v901 : BitVec 1 := Scalar.cmpi .slt v899 c0_i32_671
  let c0_i32_672 : BitVec 32 := 0#32
  let v902 : BitVec 1 := Scalar.cmpi .slt v898 c0_i32_672
  let v903 : BitVec 1 := Scalar.xori v901 v902
  let c0_i32_670 : BitVec 32 := 0#32
  let v900 : BitVec 1 := Scalar.cmpi .ne v899 c0_i32_670
  let v904 : BitVec 1 := Scalar.andi v903 v900
  let v905 : BitVec 32 := Scalar.addi v899 v898
  let v906 : BitVec 32 := Scalar.select v904 v905 v899
  let c1_i32_676 : BitVec 32 := 1#32
  let v907 : BitVec 32 := Scalar.muli v906 c1_i32_676
  let v908 : BitVec 32 := Scalar.addi c0_i32_677 v907
  v908.toNat
def k0_dev42 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_680 : BitVec 32 := 12#32
  let v917 : BitVec 32 := Scalar.addi v2 c12_i32_680
  let c16_i32_681 : BitVec 32 := 16#32
  let c0_i32_682 : BitVec 32 := 0#32
  let v918 : BitVec 1 := Scalar.cmpi .eq c16_i32_681 c0_i32_682
  let c1_i32_683 : BitVec 32 := 1#32
  let v919 : BitVec 32 := Scalar.select v918 c1_i32_683 c16_i32_681
  let v920 : BitVec 32 := Scalar.remsi v917 v919
  let c0_i32_685 : BitVec 32 := 0#32
  let v922 : BitVec 1 := Scalar.cmpi .slt v920 c0_i32_685
  let c0_i32_686 : BitVec 32 := 0#32
  let v923 : BitVec 1 := Scalar.cmpi .slt v919 c0_i32_686
  let v924 : BitVec 1 := Scalar.xori v922 v923
  let c0_i32_684 : BitVec 32 := 0#32
  let v921 : BitVec 1 := Scalar.cmpi .ne v920 c0_i32_684
  let v925 : BitVec 1 := Scalar.andi v924 v921
  let v926 : BitVec 32 := Scalar.addi v920 v919
  let v927 : BitVec 32 := Scalar.select v925 v926 v920
  let c1_i32_690 : BitVec 32 := 1#32
  let v928 : BitVec 32 := Scalar.muli v927 c1_i32_690
  let v929 : BitVec 32 := Scalar.addi c0_i32_691 v928
  v929.toNat
def k0_dev43 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_694 : BitVec 32 := 13#32
  let v938 : BitVec 32 := Scalar.addi v2 c13_i32_694
  let c16_i32_695 : BitVec 32 := 16#32
  let c0_i32_696 : BitVec 32 := 0#32
  let v939 : BitVec 1 := Scalar.cmpi .eq c16_i32_695 c0_i32_696
  let c1_i32_697 : BitVec 32 := 1#32
  let v940 : BitVec 32 := Scalar.select v939 c1_i32_697 c16_i32_695
  let v941 : BitVec 32 := Scalar.remsi v938 v940
  let c0_i32_699 : BitVec 32 := 0#32
  let v943 : BitVec 1 := Scalar.cmpi .slt v941 c0_i32_699
  let c0_i32_700 : BitVec 32 := 0#32
  let v944 : BitVec 1 := Scalar.cmpi .slt v940 c0_i32_700
  let v945 : BitVec 1 := Scalar.xori v943 v944
  let c0_i32_698 : BitVec 32 := 0#32
  let v942 : BitVec 1 := Scalar.cmpi .ne v941 c0_i32_698
  let v946 : BitVec 1 := Scalar.andi v945 v942
  let v947 : BitVec 32 := Scalar.addi v941 v940
  let v948 : BitVec 32 := Scalar.select v946 v947 v941
  let c1_i32_704 : BitVec 32 := 1#32
  let v949 : BitVec 32 := Scalar.muli v948 c1_i32_704
  let v950 : BitVec 32 := Scalar.addi c0_i32_705 v949
  v950.toNat
def k0_dev44 (d0 : Dev nD) : Nat :=
  let c0_i32_719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_708 : BitVec 32 := 14#32
  let v959 : BitVec 32 := Scalar.addi v2 c14_i32_708
  let c16_i32_709 : BitVec 32 := 16#32
  let c0_i32_710 : BitVec 32 := 0#32
  let v960 : BitVec 1 := Scalar.cmpi .eq c16_i32_709 c0_i32_710
  let c1_i32_711 : BitVec 32 := 1#32
  let v961 : BitVec 32 := Scalar.select v960 c1_i32_711 c16_i32_709
  let v962 : BitVec 32 := Scalar.remsi v959 v961
  let c0_i32_713 : BitVec 32 := 0#32
  let v964 : BitVec 1 := Scalar.cmpi .slt v962 c0_i32_713
  let c0_i32_714 : BitVec 32 := 0#32
  let v965 : BitVec 1 := Scalar.cmpi .slt v961 c0_i32_714
  let v966 : BitVec 1 := Scalar.xori v964 v965
  let c0_i32_712 : BitVec 32 := 0#32
  let v963 : BitVec 1 := Scalar.cmpi .ne v962 c0_i32_712
  let v967 : BitVec 1 := Scalar.andi v966 v963
  let v968 : BitVec 32 := Scalar.addi v962 v961
  let v969 : BitVec 32 := Scalar.select v967 v968 v962
  let c1_i32_718 : BitVec 32 := 1#32
  let v970 : BitVec 32 := Scalar.muli v969 c1_i32_718
  let v971 : BitVec 32 := Scalar.addi c0_i32_719 v970
  v971.toNat
def k0_dev45 (d0 : Dev nD) : Nat :=
  let c0_i32_733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_722 : BitVec 32 := 15#32
  let v980 : BitVec 32 := Scalar.addi v2 c15_i32_722
  let c16_i32_723 : BitVec 32 := 16#32
  let c0_i32_724 : BitVec 32 := 0#32
  let v981 : BitVec 1 := Scalar.cmpi .eq c16_i32_723 c0_i32_724
  let c1_i32_725 : BitVec 32 := 1#32
  let v982 : BitVec 32 := Scalar.select v981 c1_i32_725 c16_i32_723
  let v983 : BitVec 32 := Scalar.remsi v980 v982
  let c0_i32_727 : BitVec 32 := 0#32
  let v985 : BitVec 1 := Scalar.cmpi .slt v983 c0_i32_727
  let c0_i32_728 : BitVec 32 := 0#32
  let v986 : BitVec 1 := Scalar.cmpi .slt v982 c0_i32_728
  let v987 : BitVec 1 := Scalar.xori v985 v986
  let c0_i32_726 : BitVec 32 := 0#32
  let v984 : BitVec 1 := Scalar.cmpi .ne v983 c0_i32_726
  let v988 : BitVec 1 := Scalar.andi v987 v984
  let v989 : BitVec 32 := Scalar.addi v983 v982
  let v990 : BitVec 32 := Scalar.select v988 v989 v983
  let c1_i32_732 : BitVec 32 := 1#32
  let v991 : BitVec 32 := Scalar.muli v990 c1_i32_732
  let v992 : BitVec 32 := Scalar.addi c0_i32_733 v991
  v992.toNat
abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x16384 : Shape := ⟨2, ![4096, 16384]⟩
abbrev S16384 : Shape := ⟨1, ![16384]⟩
abbrev S_ : Shape := ⟨0, ![]⟩
abbrev S4096 : Shape := ⟨1, ![4096]⟩
abbrev S4096x1 : Shape := ⟨2, ![4096, 1]⟩
abbrev S1x16384 : Shape := ⟨2, ![1, 16384]⟩

abbrev nBuf : Space → Nat
  | .hbm => 19
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S4096x16384, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S1x16384, .f32⟩
  | .hbm, ⟨14, _⟩ => ⟨S4096x16384, .f32⟩
  | .hbm, ⟨15, _⟩ => ⟨S4096x16384, .f32⟩
  | .hbm, ⟨16, _⟩ => ⟨S4096x16384, .f32⟩
  | .hbm, ⟨17, _⟩ => ⟨S4096x16384, .f32⟩
  | .hbm, ⟨18, _⟩ => ⟨S4096x16384, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Tidy.lean ====
/-
  The kernel's body written with loops.

  The printed body is one straight line of operations: fifteen credit signals, eight copies started, sixteen
  row-sum stores, thirty remote copies, and so on.  Here the same line is written with a loop over an index for
  each of these stretches (`tidy`), each piece a function of its index, and `body_eq_tidy` states that the two
  are the same program.
-/
module

public import proofs.«01_k».proof.Proof.Gen.KernelIdeal.Skeleton
public import Idealize.ShloMosaic.Lib.Pipeline.Regions

@[expose] public section

noncomputable section

namespace Cert.KernelIdeal.Kp

open Idealize.ShloMosaic Idealize.ShloMosaic.TcCoe
open Idealize.SL Idealize.SL.Sem
open Cert.KernelIdeal.Gen

variable {F : FTy → Type} [FloatOps F]

/-! ## The buffers -/

/-- The rows of x this device holds. -/
abbrev xM : Memref sig .tc .hbm S4096x1024 .f32 := Memref.whole main_arg0
/-- The piece of gamma this device holds, staged in fast memory. -/
abbrev gM : Memref sig .tc .vmem S1024 .f32 := Memref.whole cc0_stg0_0
/-- The result. -/
abbrev oM : Memref sig .tc .hbm S4096x1024 .bf16 := Memref.whole main_v1
/-- x in fast memory. -/
abbrev xvM : Memref sig .tc .vmem S4096x1024 .f32 := Memref.whole cc0_scratch0
/-- The result in fast memory. -/
abbrev ovM : Memref sig .tc .vmem S4096x1024 .bf16 := Memref.whole cc0_scratch1
/-- The sums of squares: row 0 this device's, row `d` those of the device `d` before it. -/
abbrev cmM : Memref sig .tc .vmem S16x4096 .f32 := Memref.whole cc0_scratch2

/-! ## The windows -/

/-- A chunk lies inside its array. -/
theorem chunk_inb (c : Fin 8) : ∀ a, (![512 * c.val, 0] : Fin 2 → Nat) a + S512x1024.size a ≤ S4096x1024.size a := by
  revert c; decide
/-- Rows `512 c` to `512 c + 511` of a 4096 × 1024 array. -/
abbrev chunkR (c : Fin 8) : Rect S4096x1024 := Rect.unit (s := S4096x1024) ![512 * c.val, 0] S512x1024.size (chunk_inb c)

/-- A chunk is made of whole words at two bytes an element. -/
theorem chunk_words (c : Fin 8) : (chunkR c).WholeWords (EltTy.packing .bf16) := by revert c; decide
/-- A chunk is made of whole packed rows at two bytes an element. -/
theorem chunk_packed (c : Fin 8) : (chunkR c).PackedRows (EltTy.packing .bf16) := by revert c; decide

/-- A piece of row 0 lies inside the sums. -/
theorem piece_inb (c : Fin 8) : ∀ a, (![0, 512 * c.val] : Fin 2 → Nat) a + S1x512.size a ≤ S16x4096.size a := by
  revert c; decide
/-- The 512 entries of chunk `c` in row 0 of the sums. -/
abbrev pieceR (c : Fin 8) : Rect S16x4096 := Rect.unit (s := S16x4096) ![0, 512 * c.val] S1x512.size (piece_inb c)

/-- The columns of a chunk lie inside the sums. -/
theorem stack_inb (c : Fin 8) : ∀ a, (![0, 512 * c.val] : Fin 2 → Nat) a + S16x512.size a ≤ S16x4096.size a := by
  revert c; decide
/-- The 512 columns of chunk `c` in all sixteen rows of the sums. -/
abbrev stackR (c : Fin 8) : Rect S16x4096 := Rect.unit (s := S16x4096) ![0, 512 * c.val] S16x512.size (stack_inb c)

/-- Half a row lies inside the sums. -/
theorem seg_inb (r : Fin 16) (g : Fin 2) : ∀ a, (![r.val, 2048 * g.val] : Fin 2 → Nat) a + S1x2048.size a ≤ S16x4096.size a := by
  revert r g; decide
/-- Half `g` of row `r` of the sums. -/
abbrev segR (r : Fin 16) (g : Fin 2) : Rect S16x4096 :=
  Rect.unit (s := S16x4096) ![r.val, 2048 * g.val] S1x2048.size (seg_inb r g)

/-- Chunk `c` of x, of x in fast memory, of the result in fast memory, of the result. -/
abbrev xW (c : Fin 8) : Memref sig .tc .hbm S512x1024 .f32 := xM.slice (chunkR c) (fun _ => rfl)
/-- Chunk `c` of x in fast memory. -/
abbrev xvW (c : Fin 8) : Memref sig .tc .vmem S512x1024 .f32 := xvM.slice (chunkR c) (fun _ => rfl)
/-- Chunk `c` of the result in fast memory. -/
abbrev ovW (c : Fin 8) : Memref sig .tc .vmem S512x1024 .bf16 := ovM.slice (chunkR c) (fun _ => rfl)
/-- Chunk `c` of the result. -/
abbrev oW (c : Fin 8) : Memref sig .tc .hbm S512x1024 .bf16 := oM.slice (chunkR c) (fun _ => rfl)
/-- Half `g` of row `r` of the sums, as a vector. -/
abbrev cmW (r : Fin 16) (g : Fin 2) : Memref sig .tc .vmem S2048 .f32 :=
  (cmM.slice (segR r g) (fun _ => rfl)).squeeze S2048 squeezes_S1x2048_S2048

/-! ## The semaphores -/

/-- The barrier's semaphore. -/
abbrev barS : Sem sig := (16 : Fin 17)
/-- The credit semaphore of distance `r`. -/
abbrev crS (r : Fin 16) : Sem sig := (⟨r.val, by omega⟩ : Fin 17)
/-- The semaphore of the copy of chunk `c` of x into fast memory. -/
abbrev ldS (c : Fin 8) : DmaSem sig := (⟨1 + c.val, by omega⟩ : Fin 81)
/-- The semaphore of the copy of chunk `c` of the result out of fast memory. -/
abbrev stS (c : Fin 8) : DmaSem sig := (⟨9 + c.val, by omega⟩ : Fin 81)
/-- The semaphore a remote copy of half `g` over distance `r` signals when it has left. -/
abbrev sdS (r : Fin 16) (g : Fin 2) : DmaSem sig := (⟨17 + (16 * g.val + r.val), by omega⟩ : Fin 81)
/-- The semaphore a remote copy of half `g` over distance `r` signals when it has arrived. -/
abbrev rvS (r : Fin 16) (g : Fin 2) : DmaSem sig := (⟨49 + (16 * g.val + r.val), by omega⟩ : Fin 81)

/-! ## The devices addressed -/

/-- The device the credit of distance `k + 1` goes to, as the program computes it. -/
abbrev credDev (d : Dev nD) : Fin 15 → Dev nD
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩
  | 6 => ⟨k0_dev7 d, k0_dev7_lt d⟩ | 7 => ⟨k0_dev8 d, k0_dev8_lt d⟩ | 8 => ⟨k0_dev9 d, k0_dev9_lt d⟩
  | 9 => ⟨k0_dev10 d, k0_dev10_lt d⟩ | 10 => ⟨k0_dev11 d, k0_dev11_lt d⟩ | 11 => ⟨k0_dev12 d, k0_dev12_lt d⟩
  | 12 => ⟨k0_dev13 d, k0_dev13_lt d⟩ | 13 => ⟨k0_dev14 d, k0_dev14_lt d⟩ | 14 => ⟨k0_dev15 d, k0_dev15_lt d⟩

/-- The device the remote copy of half 0 over distance `k + 1` goes to, as the program computes it. -/
abbrev sendDev0 (d : Dev nD) : Fin 15 → Dev nD
  | 0 => ⟨k0_dev16 d, k0_dev16_lt d⟩ | 1 => ⟨k0_dev17 d, k0_dev17_lt d⟩ | 2 => ⟨k0_dev18 d, k0_dev18_lt d⟩
  | 3 => ⟨k0_dev19 d, k0_dev19_lt d⟩ | 4 => ⟨k0_dev20 d, k0_dev20_lt d⟩ | 5 => ⟨k0_dev21 d, k0_dev21_lt d⟩
  | 6 => ⟨k0_dev22 d, k0_dev22_lt d⟩ | 7 => ⟨k0_dev23 d, k0_dev23_lt d⟩ | 8 => ⟨k0_dev24 d, k0_dev24_lt d⟩
  | 9 => ⟨k0_dev25 d, k0_dev25_lt d⟩ | 10 => ⟨k0_dev26 d, k0_dev26_lt d⟩ | 11 => ⟨k0_dev27 d, k0_dev27_lt d⟩
  | 12 => ⟨k0_dev28 d, k0_dev28_lt d⟩ | 13 => ⟨k0_dev29 d, k0_dev29_lt d⟩ | 14 => ⟨k0_dev30 d, k0_dev30_lt d⟩

/-- The device the remote copy of half 1 over distance `k + 1` goes to, as the program computes it. -/
abbrev sendDev1 (d : Dev nD) : Fin 15 → Dev nD
  | 0 => ⟨k0_dev31 d, k0_dev31_lt d⟩ | 1 => ⟨k0_dev32 d, k0_dev32_lt d⟩ | 2 => ⟨k0_dev33 d, k0_dev33_lt d⟩
  | 3 => ⟨k0_dev34 d, k0_dev34_lt d⟩ | 4 => ⟨k0_dev35 d, k0_dev35_lt d⟩ | 5 => ⟨k0_dev36 d, k0_dev36_lt d⟩
  | 6 => ⟨k0_dev37 d, k0_dev37_lt d⟩ | 7 => ⟨k0_dev38 d, k0_dev38_lt d⟩ | 8 => ⟨k0_dev39 d, k0_dev39_lt d⟩
  | 9 => ⟨k0_dev40 d, k0_dev40_lt d⟩ | 10 => ⟨k0_dev41 d, k0_dev41_lt d⟩ | 11 => ⟨k0_dev42 d, k0_dev42_lt d⟩
  | 12 => ⟨k0_dev43 d, k0_dev43_lt d⟩ | 13 => ⟨k0_dev44 d, k0_dev44_lt d⟩ | 14 => ⟨k0_dev45 d, k0_dev45_lt d⟩

/-- The credit of distance `k + 1` goes that far back round the ring. -/
theorem credDev_eq (d : Dev nD) (k : Fin 15) : credDev d k = (⟨(d.val + (15 - k.val)) % 16, Nat.mod_lt _ (by decide)⟩ : Fin 16) := by
  revert d k; decide +kernel
/-- A remote copy over distance `k + 1` goes that far forward round the ring. -/
theorem sendDev0_eq (d : Dev nD) (k : Fin 15) : sendDev0 d k = (⟨(d.val + (k.val + 1)) % 16, Nat.mod_lt _ (by decide)⟩ : Fin 16) := by
  revert d k; decide +kernel
/-- The device that half 1 is sent to over distance `k + 1`. -/
theorem sendDev1_eq (d : Dev nD) (k : Fin 15) : sendDev1 d k = (⟨(d.val + (k.val + 1)) % 16, Nat.mod_lt _ (by decide)⟩ : Fin 16) := by
  revert d k; decide +kernel

/-! ## The pieces of the body -/

/-- The programs of one device. -/
abbrev P (F : FTy → Type) := Prog (TpuEff nD τ sig (Elt F) Λ₀ .tc)

/-- `f 0`, then `f 1`, … then `f (n − 1)`. -/
def rep : (n : ℕ) → (Fin n → P F PUnit) → P F PUnit
  | 0, _ => pure ⟨⟩
  | n + 1, f => f 0 >>= fun _ => rep n fun i => f i.succ

/-- Distance `k + 1`. -/
abbrev dist (k : Fin 15) : Fin 16 := k.succ
/-- Chunk `j` of half `g`. -/
abbrev chunkOf (g : Fin 2) (j : Fin 4) : Fin 8 := ⟨4 * g.val + j.val, by omega⟩

/-- Start the copy of chunk `c` of x into fast memory. -/
def startLoad (c : Fin 8) : P F PUnit :=
  Prog.lift (.enqueueDma (xW c) (.here (xvW c)) (.dma (ldS c)) (View.wordExact_bits rfl) (View.wordExact_bits rfl)
    ⟨Or.inl rfl, trivial⟩)

/-- Wait for chunk `c` of x, and store the sums of squares of its rows. -/
def sumChunk (c : Fin 8) : P F PUnit := do
  Prog.lift (.waitDma2 (ldS c) (xW c) (xvW c) (View.wordExact_bits rfl) (View.wordExact_bits rfl))
  let v ← Prog.lift (.load xvM (chunkR c).toLoadRect (View.loadsAt_vmem h_S512x1024))
  let _ ← Prog.lift (.load cmM (pieceR c).toLoadRect (View.loadsAt_vmem h_S1x512))
  Prog.lift (.store cmM (pieceR c) (k0_pay1 v) Finset.univ (View.stores_vmem_bits_univ h_S1x512 rfl) (.inl rfl))

/-- Start the remote copy of half `g` of row 0 into row `dist k` of device `t`. -/
def sendSeg (g : Fin 2) (k : Fin 15) (t : Dev nD) : P F PUnit :=
  Prog.lift (.enqueueDma (cmW 0 g) (.remote (Dev.tc t) (cmW (dist k) g) (.dma (sdS (dist k) g))) (.dma (rvS (dist k) g))
    ((View.wordExact_bits rfl).reshape _ _) ((View.wordExact_bits rfl).reshape _ _) ⟨⟨rfl, Or.inl rfl⟩, trivial⟩)

/-- Wait for the sums a device `dist k` before this one sent. -/
def recvSeg (g : Fin 2) (k : Fin 15) : P F PUnit :=
  Prog.lift (.waitDma2 (rvS (dist k) g) (cmW 0 g) (cmW (dist k) g)
    ((View.wordExact_bits rfl).reshape _ _) ((View.wordExact_bits rfl).reshape _ _))

/-- Wait until the remote copy of half `g` over distance `dist k` has left. -/
def sentSeg (g : Fin 2) (k : Fin 15) : P F PUnit :=
  Prog.lift (.waitDma2 (sdS (dist k) g) (cmW (dist k) g) (cmW 0 g)
    ((View.wordExact_bits rfl).reshape _ _) ((View.wordExact_bits rfl).reshape _ _))

/-- Compute chunk `c` of the result and start its copy out of fast memory. -/
def outChunk (c : Fin 8) : P F PUnit := do
  let s ← Prog.lift (.load cmM (stackR c).toLoadRect (View.loadsAt_vmem h_S16x512))
  let v ← Prog.lift (.load xvM (chunkR c).toLoadRect (View.loadsAt_vmem h_S512x1024))
  let w ← Prog.lift (.load gM (Rect.unit (s := S1024) ![0] S1024.size inb_S1024_S1024_0).toLoadRect (View.loadsAt_vmem h_S1024))
  let _ ← Prog.lift (.load ovM (chunkR c).toLoadRect (View.loadsAt_vmem h_S512x1024))
  Prog.lift (.store ovM (chunkR c) (k0_pay9 s v w) Finset.univ
    (View.stores_vmem h_S512x1024 ((Memref.isWhole_whole _).storeExact_slice rfl _ (chunk_packed c)) (fun _ => rfl)) (.inl rfl))
  Prog.lift (.enqueueDma (ovW c) (.here (oW c)) (.dma (stS c))
    ((Memref.isWhole_whole _).wordExact_slice rfl _ (chunk_words c)) ((Memref.isWhole_whole _).wordExact_slice rfl _ (chunk_words c))
    ⟨Or.inl rfl, trivial⟩)

/-- Wait for the copy of chunk `c` of the result. -/
def storedChunk (c : Fin 8) : P F PUnit :=
  Prog.lift (.waitDma2 (stS c) (ovW c) (oW c)
    ((Memref.isWhole_whole _).wordExact_slice rfl _ (chunk_words c)) ((Memref.isWhole_whole _).wordExact_slice rfl _ (chunk_words c)))

/-- The body. -/
def tidy : P F PUnit := do
  let d ← Prog.lift .deviceId
  semSignalHereWord barS 1#32
  semWaitWord barS 1#32
  rep 15 fun k => semSignalWord (credDev d k) (crS (dist k)) 1#32
  rep 8 fun c => startLoad c
  rep 4 fun j => sumChunk (chunkOf 0 j)
  rep 15 fun k => do
    semWaitWord (crS (dist k)) 1#32
    sendSeg 0 k (sendDev0 d k)
  rep 4 fun j => sumChunk (chunkOf 1 j)
  rep 15 fun k => sendSeg 1 k (sendDev1 d k)
  rep 15 fun k => recvSeg 0 k
  rep 4 fun j => outChunk (chunkOf 0 j)
  rep 15 fun k => recvSeg 1 k
  rep 4 fun j => outChunk (chunkOf 1 j)
  rep 15 fun k => sentSeg 0 k
  rep 15 fun k => sentSeg 1 k
  rep 8 fun c => storedChunk c

set_option maxRecDepth 65536 in
/-- The printed body, on the buffers it is called with, is the body with loops. -/
theorem body_eq_tidy : cc0_body (F := F) xM (Memref.isWhole_whole _) gM (Memref.isWhole_whole _) oM (Memref.isWhole_whole _)
    xvM (Memref.isWhole_whole _) ovM (Memref.isWhole_whole _) cmM (Memref.isWhole_whole _)
    cc0_scratch3 cc0_scratch4 cc0_scratch5 cc0_scratch6 cc0_scratch7 = tidy := by
  chain_rfl

end Cert.KernelIdeal.Kp

end
-- ==== Proof.Windows.lean ====
/-
  The kernel's windows, and what it keeps in its buffers.

  Which elements each window holds (`mem_chunk`, `mem_piece`, `mem_seg`, `mem_stack`); the ring's arithmetic
  (`fwd`, `bwd`); what every buffer of fast memory holds once written (`commV`: the sums of squares, `outV`: the
  result); and, for each store and each copy of the kernel, that what it writes is that.
-/
module

public import proofs.«01_k».proof.Proof.Tidy

@[expose] public section

noncomputable section

namespace Cert.KernelIdeal.Kp

open Idealize.ShloMosaic Idealize.ShloMosaic.TcCoe
open Idealize.SL Idealize.SL.Sem
open Cert.KernelIdeal.Gen

variable {F : FTy → Type} [FloatOps F]

/-! ## The ring -/

/-- The device `r` after `c`. -/
def fwd (c : Dev nD) (r : Fin 16) : Dev nD := (⟨(c.val + r.val) % 16, Nat.mod_lt _ (by decide)⟩ : Fin 16)
/-- The device `r` before `c`. -/
def bwd (c : Dev nD) (r : Fin 16) : Dev nD := (⟨(c.val + (16 - r.val)) % 16, Nat.mod_lt _ (by decide)⟩ : Fin 16)

/-- `r` devices back and then `r` forward is the device itself. -/
theorem fwd_bwd (c : Dev nD) (r : Fin 16) : fwd (bwd c r) r = c := by revert c r; decide
/-- `r` devices forward and then `r` back is the device itself. -/
theorem bwd_fwd (c : Dev nD) (r : Fin 16) : bwd (fwd c r) r = c := by revert c r; decide
/-- No devices back is the device itself. -/
theorem bwd_zero (c : Dev nD) : bwd c 0 = c := by revert c; decide
/-- The credit of distance `k + 1` goes to the device that far before. -/
theorem credDev_bwd (c : Dev nD) (k : Fin 15) : credDev c k = bwd c (dist k) := by
  rw [credDev_eq]; revert c k; decide
/-- The copy of half 0 over distance `k + 1` goes to the device that far after. -/
theorem sendDev0_fwd (c : Dev nD) (k : Fin 15) : sendDev0 c k = fwd c (dist k) := by rw [sendDev0_eq]; rfl
/-- The copy of half 1 over distance `k + 1` goes to the device that far after. -/
theorem sendDev1_fwd (c : Dev nD) (k : Fin 15) : sendDev1 c k = fwd c (dist k) := by rw [sendDev1_eq]; rfl

/-! ## The windows' elements -/

/-- The elements of a chunk: its rows. -/
theorem mem_chunk {c : Fin 8} {i : S4096x1024.Idx} : i ∈ (chunkR c).set ↔ 512 * c.val ≤ (i 0).val ∧ (i 0).val < 512 * c.val + 512 := by
  rw [Rect.mem_set_unit, Fin.forall_fin_two]
  exact ⟨fun h => h.1, fun h => ⟨h, Nat.zero_le _, (i 1).isLt.trans_le (le_of_eq (Nat.zero_add 1024).symm)⟩⟩

/-- The elements of a piece of row 0. -/
theorem mem_piece {c : Fin 8} {i : S16x4096.Idx} :
    i ∈ (pieceR c).set ↔ (i 0).val = 0 ∧ 512 * c.val ≤ (i 1).val ∧ (i 1).val < 512 * c.val + 512 := by
  rw [Rect.mem_set_unit, Fin.forall_fin_two]
  constructor
  · rintro ⟨⟨-, h0⟩, h1⟩
    have : (i 0).val < 0 + 1 := h0
    exact ⟨by omega, h1⟩
  · rintro ⟨h0, h1⟩
    exact ⟨⟨Nat.zero_le _, show (i 0).val < 0 + 1 by omega⟩, h1⟩

/-- The elements of half a row. -/
theorem mem_seg {r : Fin 16} {g : Fin 2} {i : S16x4096.Idx} :
    i ∈ (segR r g).set ↔ (i 0).val = r.val ∧ 2048 * g.val ≤ (i 1).val ∧ (i 1).val < 2048 * g.val + 2048 := by
  rw [Rect.mem_set_unit, Fin.forall_fin_two]
  constructor
  · rintro ⟨⟨h0', h0⟩, h1⟩
    have a : (i 0).val < r.val + 1 := h0
    have b : r.val ≤ (i 0).val := h0'
    exact ⟨by omega, h1⟩
  · rintro ⟨h0, h1⟩
    exact ⟨⟨show r.val ≤ (i 0).val by omega, show (i 0).val < r.val + 1 by omega⟩, h1⟩

/-- The elements of a chunk's columns. -/
theorem mem_stack {c : Fin 8} {i : S16x4096.Idx} :
    i ∈ (stackR c).set ↔ 512 * c.val ≤ (i 1).val ∧ (i 1).val < 512 * c.val + 512 := by
  rw [Rect.mem_set_unit, Fin.forall_fin_two]
  exact ⟨fun h => h.2, fun h => ⟨⟨Nat.zero_le _, (i 0).isLt.trans_le (le_of_eq (Nat.zero_add 16).symm)⟩, h⟩⟩

/-- Half `g` of every row of the sums. -/
def halfS (g : Fin 2) : Finset S16x4096.Idx := Finset.univ.biUnion fun r => (segR r g).set

/-- The elements of a half of all rows. -/
theorem mem_half {g : Fin 2} {i : S16x4096.Idx} :
    i ∈ halfS g ↔ 2048 * g.val ≤ (i 1).val ∧ (i 1).val < 2048 * g.val + 2048 := by
  unfold halfS
  rw [Finset.mem_biUnion]
  constructor
  · rintro ⟨r, -, h⟩; exact (mem_seg.mp h).2
  · intro h; exact ⟨i 0, Finset.mem_univ _, mem_seg.mpr ⟨rfl, h⟩⟩

/-- Different chunks share no element. -/
theorem chunk_disj (c c' : Fin 8) (h : c ≠ c') : Disjoint (chunkR c).set (chunkR c').set := by
  rw [Finset.disjoint_left]
  intro i hi hi'
  rw [mem_chunk] at hi hi'
  exact h (Fin.ext (by omega))

/-- The chunks are the whole array. -/
theorem chunk_cover : (Finset.univ : Finset S4096x1024.Idx) = Finset.univ.biUnion fun c : Fin 8 => (chunkR c).set := by
  refine (Finset.eq_univ_iff_forall.mpr fun i => Finset.mem_biUnion.mpr ?_).symm
  have hi : (i 0).val < 4096 := (i 0).isLt
  exact ⟨⟨(i 0).val / 512, by omega⟩, Finset.mem_univ _, mem_chunk.mpr (by constructor <;> dsimp only <;> omega)⟩

/-- Different rows share no element. -/
theorem seg_disj (g : Fin 2) (r r' : Fin 16) (h : r ≠ r') : Disjoint (segR r g).set (segR r' g).set := by
  rw [Finset.disjoint_left]
  intro i hi hi'
  rw [mem_seg] at hi hi'
  exact h (Fin.ext (by omega))

/-- The two halves share no element. -/
theorem half_disj (g g' : Fin 2) (h : g ≠ g') : Disjoint (halfS g) (halfS g') := by
  rw [Finset.disjoint_left]
  intro i hi hi'
  rw [mem_half] at hi hi'
  exact h (Fin.ext (by omega))

/-- The two halves are all the sums. -/
theorem half_cover : (Finset.univ : Finset S16x4096.Idx) = Finset.univ.biUnion halfS := by
  refine (Finset.eq_univ_iff_forall.mpr fun i => Finset.mem_biUnion.mpr ?_).symm
  have hi : (i 1).val < 4096 := (i 1).isLt
  exact ⟨⟨(i 1).val / 2048, by omega⟩, Finset.mem_univ _, mem_half.mpr (by constructor <;> dsimp only <;> omega)⟩

/-- Different pieces of a half share no element. -/
theorem piece_disj (g : Fin 2) (j j' : Fin 4) (h : j ≠ j') : Disjoint (pieceR (chunkOf g j)).set (pieceR (chunkOf g j')).set := by
  rw [Finset.disjoint_left]
  intro i hi hi'
  rw [mem_piece] at hi hi'
  dsimp only at hi hi'
  exact h (Fin.ext (by omega))

/-- The four pieces are the half of row 0. -/
theorem piece_cover (g : Fin 2) : (segR 0 g).set = Finset.univ.biUnion fun j : Fin 4 => (pieceR (chunkOf g j)).set := by
  ext i
  rw [Finset.mem_biUnion, mem_seg]
  constructor
  · rintro ⟨h0, h1, h2⟩
    refine ⟨⟨((i 1).val - 2048 * g.val) / 512, by omega⟩, Finset.mem_univ _, mem_piece.mpr ⟨h0, ?_, ?_⟩⟩ <;> dsimp only <;> omega
  · rintro ⟨j, -, h⟩
    rw [mem_piece] at h
    dsimp only at h
    exact ⟨h.1, by omega, by omega⟩

/-- A chunk's columns lie in its half. -/
theorem stack_sub (g : Fin 2) (j : Fin 4) : (stackR (chunkOf g j)).set ⊆ halfS g := by
  intro i hi
  rw [mem_stack] at hi
  rw [mem_half]
  dsimp only at hi
  omega

/-! ## What the buffers hold -/

/-- Chunk `c` of an array of this device's shape. -/
def chunkV (x : S4096x1024.Idx → Elt F .f32) (c : Fin 8) : Vec F S512x1024 .f32 := xvM.view.readAt (Elt F) (chunkR c).toLoadRect x
/-- The columns of chunk `c` of the sums. -/
def stackV (s : S16x4096.Idx → Elt F .f32) (c : Fin 8) : Vec F S16x512 .f32 := cmM.view.readAt (Elt F) (stackR c).toLoadRect s

/-- An index of the row of sums of one chunk. -/
def pIdx (k : ℕ) (h : k < 512) : S1x512.Idx := Fin.cons (0 : Fin 1) (Fin.cons (⟨k, h⟩ : Fin 512) finZeroElim)
/-- An index of one chunk. -/
def qIdx (k : ℕ) (h : k < 512) (l : Fin 1024) : S512x1024.Idx := Fin.cons (⟨k, h⟩ : Fin 512) (Fin.cons l finZeroElim)

variable (X : Dev nD → S4096x1024.Idx → Elt F .f32) (G : Dev nD → S1024.Idx → Elt F .f32)

/-- The sums of squares device `t` holds at the end: in row `r` those of the device `r` before it. -/
def commV (t : Dev nD) : S16x4096.Idx → Elt F .f32 := fun i =>
  k0_pay1 (chunkV (X (bwd t (i 0))) ⟨(i 1).val / 512, by have : (i 1).val < 4096 := (i 1).isLt; omega⟩)
    (pIdx ((i 1).val % 512) (Nat.mod_lt _ (by decide)))

/-- The result of device `c`. -/
def outV (c : Dev nD) : S4096x1024.Idx → Elt F .bf16 := fun i =>
  k0_pay9 (stackV (commV X c) ⟨(i 0).val / 512, by have : (i 0).val < 4096 := (i 0).isLt; omega⟩)
    (chunkV (X c) ⟨(i 0).val / 512, by have : (i 0).val < 4096 := (i 0).isLt; omega⟩) (G c)
    (qIdx ((i 0).val % 512) (Nat.mod_lt _ (by decide)) (i 1))

/-! ## What the stores and the copies write -/

/-- An element of a rectangle is the element at one of its indices. -/
theorem exists_emb {s : Shape} {r : Rect s} {i : s.Idx} (hi : i ∈ r.set) : ∃ x : r.shape.Idx, r.emb x = i := by
  rw [← Rect.map_emb_univ] at hi
  obtain ⟨x, -, e⟩ := Finset.mem_map.mp hi
  exact ⟨x, e⟩

/-- The sums at an element depend on its row's device and its column only. -/
theorem commV_congr (t t' : Dev nD) (i i' : S16x4096.Idx) (h : bwd t (i 0) = bwd t' (i' 0)) (h1 : i 1 = i' 1) :
    commV X t i = commV X t' i' := by
  unfold commV
  have hp : pIdx ((i 1).val % 512) (Nat.mod_lt _ (by decide)) = pIdx ((i' 1).val % 512) (Nat.mod_lt _ (by decide)) := by
    congr 1; rw [h1]
  rw [hp]
  simp only [h, h1]

/-- The store of the sums of one chunk. -/
theorem write_piece (me : Dev nD) (c : Fin 8) (f : S16x4096.Idx → Elt F .f32) :
    ∀ i ∈ (pieceR c).set, (cmM.access (pieceR c)).write (Elt F) f (k0_pay1 (chunkV (X me) c)) Finset.univ i = commV X me i := by
  intro i hi
  obtain ⟨x, rfl⟩ := exists_emb hi
  refine (View.write_emb_of_mem (v := cmM.access (pieceR c)) f _ (Finset.mem_univ x)).trans ?_
  have h0 : (pieceR c).emb x 0 = (0 : Fin 16) := by
    apply Fin.ext
    have : (x 0).val < 1 := (x 0).isLt
    rw [Rect.emb_apply]
    show 0 + 1 * (x 0).val = 0
    omega
  have h1 : ((pieceR c).emb x 1).val = 512 * c.val + (x 1).val := by
    rw [Rect.emb_apply]
    show 512 * c.val + 1 * (x 1).val = _
    omega
  have hx1 : (x 1).val < 512 := (x 1).isLt
  have hx0 : (x 0).val < 1 := (x 0).isLt
  have hc : (⟨((pieceR c).emb x 1).val / 512, by rw [h1]; omega⟩ : Fin 8) = c := Fin.ext (by dsimp only; rw [h1]; omega)
  have hp : pIdx (((pieceR c).emb x 1).val % 512) (Nat.mod_lt _ (by decide)) = x := by
    funext a
    refine Fin.cases ?_ (fun a => Fin.cases ?_ (fun a => a.elim0) a) a
    · exact Fin.ext (show 0 = (x 0).val by omega)
    · exact Fin.ext (show ((pieceR c).emb x 1).val % 512 = (x 1).val by rw [h1]; omega)
  unfold commV
  rw [hc, hp, h0, bwd_zero]
  rfl

/-- The copy of one chunk of x into fast memory. -/
theorem write_load (c : Fin 8) (f x : S4096x1024.Idx → Elt F .f32) :
    ∀ i ∈ (chunkR c).set, (xvW c).view.write (Elt F) f ((xW c).view.read (Elt F) x) Finset.univ i = x i := by
  intro i hi
  obtain ⟨y, rfl⟩ := exists_emb hi
  exact (View.write_emb_of_mem (v := (xvW c).view) f _ (Finset.mem_univ y)).trans rfl

/-- The copy of one chunk of the result out of fast memory. -/
theorem write_store (c : Fin 8) (f x : S4096x1024.Idx → Elt F .bf16) :
    ∀ i ∈ (chunkR c).set, (oW c).view.write (Elt F) f ((ovW c).view.read (Elt F) x) Finset.univ i = x i := by
  intro i hi
  obtain ⟨y, rfl⟩ := exists_emb hi
  exact (View.write_emb_of_mem (v := (oW c).view) f _ (Finset.mem_univ y)).trans rfl

/-- The store of one chunk of the result. -/
theorem write_out (me : Dev nD) (c : Fin 8) (f : S4096x1024.Idx → Elt F .bf16) :
    ∀ i ∈ (chunkR c).set, (ovM.access (chunkR c)).write (Elt F) f (k0_pay9 (stackV (commV X me) c) (chunkV (X me) c) (G me)) Finset.univ i
      = outV X G me i := by
  intro i hi
  obtain ⟨x, rfl⟩ := exists_emb hi
  refine (View.write_emb_of_mem (v := ovM.access (chunkR c)) f _ (Finset.mem_univ x)).trans ?_
  have h0 : ((chunkR c).emb x 0).val = 512 * c.val + (x 0).val := by
    rw [Rect.emb_apply]
    show 512 * c.val + 1 * (x 0).val = _
    omega
  have h1 : ((chunkR c).emb x 1).val = (x 1).val := by
    rw [Rect.emb_apply]
    show 0 + 1 * (x 1).val = _
    omega
  have hx0 : (x 0).val < 512 := (x 0).isLt
  have hc : (⟨((chunkR c).emb x 0).val / 512, by rw [h0]; omega⟩ : Fin 8) = c := Fin.ext (by dsimp only; rw [h0]; omega)
  have hp : qIdx (((chunkR c).emb x 0).val % 512) (Nat.mod_lt _ (by decide)) ((chunkR c).emb x 1) = x := by
    funext a
    refine Fin.cases ?_ (fun a => Fin.cases ?_ (fun a => a.elim0) a) a
    · exact Fin.ext (show ((chunkR c).emb x 0).val % 512 = (x 0).val by rw [h0]; omega)
    · exact Fin.ext h1
  unfold outV
  rw [hc, hp]
  rfl

/-- A remote copy: what lands on the device `r` after this one is what that device holds in row `r`. -/
theorem write_seg (me : Dev nD) (r : Fin 16) (g : Fin 2) (f : S16x4096.Idx → Elt F .f32) :
    ∀ i ∈ (segR r g).set, (cmW r g).view.write (Elt F) f ((cmW 0 g).view.read (Elt F) (commV X me)) Finset.univ i
      = commV X (fwd me r) i := by
  intro i hi
  have hi' : i ∈ (cmW r g).view.set := by
    rw [show (cmW r g).view.set = ((View.whole cc0_scratch2).slice (segR r g)).set from View.set_reshape _ _, View.set_slice_whole]; exact hi
  obtain ⟨y, -, rfl⟩ := Finset.mem_map.mp hi'
  refine (View.write_emb_of_mem (v := (cmW r g).view) f _ (Finset.mem_univ y)).trans ?_
  set z : S1x2048.Idx := Shape.reshapeEquiv squeezes_S1x2048_S2048.numel_eq y with hz
  have hz0 : (z 0).val < 1 := (z 0).isLt
  show commV X me ((segR 0 g).emb z) = commV X (fwd me r) ((segR r g).emb z)
  have a0 : (segR 0 g).emb z 0 = (0 : Fin 16) := by
    apply Fin.ext; rw [Rect.emb_apply]; show 0 + 1 * (z 0).val = 0; omega
  have b0 : (segR r g).emb z 0 = r := by
    apply Fin.ext; rw [Rect.emb_apply]; show r.val + 1 * (z 0).val = r.val; omega
  have e1 : (segR 0 g).emb z 1 = (segR r g).emb z 1 := by
    apply Fin.ext; rw [Rect.emb_apply, Rect.emb_apply]; rfl
  exact commV_congr X _ _ _ _ (by rw [a0, b0, bwd_fwd, bwd_zero]) e1

end Cert.KernelIdeal.Kp

end
-- ==== Proof.Schedule.lean ====
/-
  The protocol of the semaphores.

  Every semaphore the kernel uses completes once, with one payment, and hands its waiter what that payment
  promises: the copies of x and of the result hand over the window they wrote and the one they read; a credit
  from the device `r` after this one hands over the two halves of that device's row `r` of the sums, which this
  device's remote copies write; a remote copy's arrival hands the receiver the half row it holds now, its
  departure hands the sender back the share of row 0 it read.  Waits are ordered by levels: a device waits for
  a copy of its own while it owes anything, for a credit while it owes only arrivals, for an arrival when it
  owes nothing.
-/
module

public import proofs.«01_k».proof.Proof.Windows
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Kp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra: the pipeline's rounds and the kernel's own -/

/-- The ghost state of the protocol's cells. -/
abbrev UB : Type := URounds (GSem nD τ sig) Unit
/-- The pipeline's ghost state and the protocol's. -/
abbrev UU : Type := UR sig nD τ × UB

local notation "𝕄" => MT nD τ sig Unit (Elt F) ℕ UU ℕ

/-- The pipeline's part. -/
abbrev EP : Emb (UR sig nD τ) (MT nD τ sig Unit (Elt F) ℕ UU ℕ) := embL
/-- The protocol's part. -/
abbrev ER : Emb UB (MT nD τ sig Unit (Elt F) ℕ UU ℕ) := embR

/-! ## Cells and amounts -/

/-- The cell of semaphore `sm` on device `c`. -/
abbrev cell (c : Dev nD) (sm : SemLoc sig) : GSem nD τ sig := ((c : Thread nD τ), sm)

/-- What the copy of a chunk of x, of a chunk of the result, of half a row of sums counts. -/
def Nld : ℕ := (xvW 0).view.dmaCredit
/-- What the copy of a chunk of the result counts. -/
def Nst : ℕ := (oW 0).view.dmaCredit
/-- What the copy of half a row of sums counts. -/
def Nx : ℕ := (cmW 0 0).view.dmaCredit
/-- A load counts something. -/
theorem Nld_pos : 0 < Nld := View.dmaCredit_pos _ (by decide)
/-- A store counts something. -/
theorem Nst_pos : 0 < Nst := View.dmaCredit_pos _ (by decide)
/-- A remote copy counts something. -/
theorem Nx_pos : 0 < Nx := View.dmaCredit_pos _ (by decide)
/-- Every load counts the same. -/
theorem credit_ld (c : Fin 8) : (xvW c).view.dmaCredit = Nld := rfl
/-- Every store counts the same. -/
theorem credit_st (c : Fin 8) : (oW c).view.dmaCredit = Nst := rfl
/-- Every remote copy counts the same. -/
theorem credit_x (r : Fin 16) (g : Fin 2) : (cmW r g).view.dmaCredit = Nx := rfl

/-! ## Holding a window -/

/-- Chunk `k` of x, of x in fast memory, of the result in fast memory, of the result, on device `c`. -/
def xP (c : Dev nD) (k : Fin 8) (f : S4096x1024.Idx → Elt F .f32) : sProp 𝕄 :=
  ((c : Thread nD τ).loc main_arg0) ↦[(chunkR k).set]{fullShare} f
/-- Chunk `k` of x in fast memory. -/
def xvP (c : Dev nD) (k : Fin 8) (f : S4096x1024.Idx → Elt F .f32) : sProp 𝕄 :=
  ((c : Thread nD τ).loc cc0_scratch0) ↦[(chunkR k).set]{fullShare} f
/-- Chunk `k` of the result in fast memory. -/
def ovP (c : Dev nD) (k : Fin 8) (f : S4096x1024.Idx → Elt F .bf16) : sProp 𝕄 :=
  ((c : Thread nD τ).loc cc0_scratch1) ↦[(chunkR k).set]{fullShare} f
/-- Chunk `k` of the result. -/
def oP (c : Dev nD) (k : Fin 8) (f : S4096x1024.Idx → Elt F .bf16) : sProp 𝕄 :=
  ((c : Thread nD τ).loc main_v1) ↦[(chunkR k).set]{fullShare} f
/-- A set of elements of the sums on device `c`, at share `q`. -/
def cmP (c : Dev nD) (S : Finset S16x4096.Idx) (q : PosShare TreeShare) (f : S16x4096.Idx → Elt F .f32) : sProp 𝕄 :=
  ((c : Thread nD τ).loc cc0_scratch2) ↦[S]{q} f

section Storable
variable (c : Dev nD) (k : Fin 8) (f : S4096x1024.Idx → Elt F .f32) (h : S4096x1024.Idx → Elt F .bf16)
  (S : Finset S16x4096.Idx) (q : PosShare TreeShare) (s : S16x4096.Idx → Elt F .f32)
omit [FloatOps F]
/-- A chunk of x may be handed over by a payment. -/
instance xP_storable : BI.Storable (upEmb : UEmb _ 𝕄) (xP c k f) := by unfold xP; infer_instance
/-- A chunk of x in fast memory may be handed over by a payment. -/
instance xvP_storable : BI.Storable (upEmb : UEmb _ 𝕄) (xvP c k f) := by unfold xvP; infer_instance
/-- A chunk of the result in fast memory may be handed over by a payment. -/
instance ovP_storable : BI.Storable (upEmb : UEmb _ 𝕄) (ovP c k h) := by unfold ovP; infer_instance
/-- A chunk of the result may be handed over by a payment. -/
instance oP_storable : BI.Storable (upEmb : UEmb _ 𝕄) (oP c k h) := by unfold oP; infer_instance
/-- A part of the sums may be handed over by a payment. -/
instance cmP_storable : BI.Storable (upEmb : UEmb _ 𝕄) (cmP c S q s) := by unfold cmP; infer_instance
end Storable

/-! ## What each payment hands over -/

variable (X : Dev nD → S4096x1024.Idx → Elt F .f32) (G : Dev nD → S1024.Idx → Elt F .f32)

/-- The share of row 0 that the remote copy over distance `r` reads. -/
def tokQ (r : Fin 16) : PosShare TreeShare := Transfers.shareTokN fullShare.right (r.val - 1)

/-- A load hands back the chunk of x and the chunk of fast memory, which holds it. -/
def ldPay (c : Dev nD) (k : Fin 8) : sProp 𝕄 := iprop(xvP c k (X c) ∗ xP c k (X c))
/-- A store hands back the chunk of the result, written, and the chunk of fast memory. -/
def stPay (c : Dev nD) (k : Fin 8) : sProp 𝕄 := iprop(oP c k (outV X G c) ∗ ovP c k (outV X G c))
/-- A departure hands back the share of row 0 that the copy read. -/
def sdPay (c : Dev nD) (r : Fin 16) (g : Fin 2) : sProp 𝕄 := cmP c (segR 0 g).set (tokQ r) (commV X c)
/-- An arrival hands over half `g` of row `r`, which holds the sums of the device `r` before. -/
def rvPay (c : Dev nD) (r : Fin 16) (g : Fin 2) : sProp 𝕄 := cmP c (segR r g).set fullShare (commV X c)
/-- Half `g` of row `r` on the device `r` after `c`, whatever it holds. -/
def rowP (c : Dev nD) (r : Fin 16) (g : Fin 2) : sProp 𝕄 := iprop(∃ f, cmP (F := F) (fwd c r) (segR r g).set fullShare f)
/-- A credit hands over row `r` of the device that gives it. -/
def crPay (c : Dev nD) (r : Fin 16) : sProp 𝕄 := iprop(rowP (F := F) c r 0 ∗ rowP (F := F) c r 1)

/-- By the number of the semaphore. -/
def regPay (c : Dev nD) (i : Fin 17) : sProp 𝕄 := if h : i.val < 16 then crPay c ⟨i.val, h⟩ else iprop(emp)
/-- What a payment to a copy's semaphore hands over, by the semaphore's number. -/
def dmaPay (c : Dev nD) (i : Fin 81) : sProp 𝕄 :=
  if h0 : i.val < 1 then iprop(emp)
  else if h1 : i.val < 9 then ldPay X c ⟨i.val - 1, by omega⟩
  else if h2 : i.val < 17 then stPay X G c ⟨i.val - 9, by omega⟩
  else if h3 : i.val < 49 then sdPay X c ⟨(i.val - 17) % 16, by omega⟩ ⟨(i.val - 17) / 16, by omega⟩
  else rvPay X c ⟨(i.val - 49) % 16, by omega⟩ ⟨(i.val - 49) / 16, by omega⟩

/-- The semaphores of the protocol that are used: all but the sixteen-fold arrays' entry 0 (distance 0) and the
    pipeline's. -/
def used : SemLoc sig → Bool
  | .reg i => i.val != 0
  | .dma i => i.val != 0 && i.val != 17 && i.val != 33 && i.val != 49 && i.val != 65

/-- One round of one payment on each used cell of a TensorCore. -/
def Rd : Rounds.Schedule (GSem nD τ sig) Unit 𝕄 where
  duties g r := if r = 0 ∧ g.1.2 = .tc ∧ used g.2 = true then {()} else ∅
  unitless _ := False
  amount g _ _ := match g.2 with
    | .reg _ => 1
    | .dma i => if i.val < 9 then Nld else if i.val < 17 then Nst else Nx
  payload g _ _ := match g.2 with
    | .reg i => regPay g.1.1 i
    | .dma i => dmaPay X G g.1.1 i
  amount_pos g _ _ _ := by
    cases g.2 with
    | reg _ => exact Nat.one_pos
    | dma i =>
      dsimp only
      split
      · exact Nld_pos
      · split
        · exact Nst_pos
        · exact Nx_pos

/-- Every payment's contents may be handed over. -/
instance Rd_payload_storable (g : GSem nD τ sig) (r : ℕ) (d : Unit) :
    BI.Storable (upEmb : UEmb _ 𝕄) ((Rd (F := F) X G).payload g r d) := by
  obtain ⟨t, sm⟩ := g
  cases sm with
  | reg i =>
    show BI.Storable upEmb (regPay (F := F) t.1 i)
    unfold regPay crPay rowP
    split <;> infer_instance
  | dma i =>
    show BI.Storable upEmb (dmaPay (F := F) X G t.1 i)
    unfold dmaPay ldPay stPay sdPay rvPay
    (repeat' split) <;> infer_instance

section Sched
variable (c : Dev nD)

/-- A used cell is due one payment in its first round. -/
theorem duties_used (sm : SemLoc sig) (h : used sm = true) : (Rd (F := F) X G).duties (cell c sm) 0 = {()} := if_pos ⟨rfl, rfl, h⟩
/-- An unused cell is due none. -/
theorem duties_unused (sm : SemLoc sig) (h : used sm = false) (r : ℕ) : (Rd (F := F) X G).duties (cell c sm) r = ∅ :=
  if_neg fun h' => Bool.false_ne_true (h.symm.trans h'.2.2)
/-- No cell is due any after its first round. -/
theorem duties_later (g : GSem nD τ sig) : ∀ r, 1 ≤ r → (Rd (F := F) X G).duties g r = ∅ :=
  fun r hr => if_neg fun h => by omega

/-- A used cell waits for its one payment. -/
theorem expect_used (sm : SemLoc sig) (h : used sm = true) :
    (Rd (F := F) X G).expect (cell c sm) 0 = (Rd (F := F) X G).amount (cell c sm) 0 () := by
  unfold Schedule.expect Schedule.amountOf; rw [duties_used X G c sm h, Finset.sum_singleton]
/-- and hands over that payment. -/
theorem rest_used (sm : SemLoc sig) (h : used sm = true) :
    bigSep ((Rd (F := F) X G).duties (cell c sm) 0 \ ∅) (fun d => (Rd (F := F) X G).payload (cell c sm) 0 d)
      = (Rd (F := F) X G).payload (cell c sm) 0 () := by
  rw [Finset.sdiff_empty, duties_used X G c sm h, bigSep_singleton]

/-- The barrier is used. -/
theorem used_bar : used (.reg barS) = true := rfl
/-- The credits are used. -/
theorem used_cr (k : Fin 15) : used (.reg (crS (dist k))) = true := by revert k; decide
/-- The load semaphores are used. -/
theorem used_ld (k : Fin 8) : used (.dma (ldS k)) = true := by revert k; decide
/-- The store semaphores are used. -/
theorem used_st (k : Fin 8) : used (.dma (stS k)) = true := by revert k; decide
/-- The departures are used. -/
theorem used_sd (k : Fin 15) (g : Fin 2) : used (.dma (sdS (dist k) g)) = true := by revert k g; decide
/-- The arrivals are used. -/
theorem used_rv (k : Fin 15) (g : Fin 2) : used (.dma (rvS (dist k) g)) = true := by revert k g; decide

/-- A signal counts one. -/
theorem amount_reg (i : Sem sig) : (Rd (F := F) X G).amount (cell c (.reg i)) 0 () = 1 := rfl
/-- A load pays what its copy counts. -/
theorem amount_ld (k : Fin 8) : (Rd (F := F) X G).amount (cell c (.dma (ldS k))) 0 () = Nld := if_pos (by show 1 + k.val < 9; omega)
/-- A store pays what its copy counts. -/
theorem amount_st (k : Fin 8) : (Rd (F := F) X G).amount (cell c (.dma (stS k))) 0 () = Nst :=
  (if_neg (by show ¬ 9 + k.val < 9; omega)).trans (if_pos (by show 9 + k.val < 17; omega))
/-- A departure pays what a remote copy counts. -/
theorem amount_sd (r : Fin 16) (g : Fin 2) : (Rd (F := F) X G).amount (cell c (.dma (sdS r g))) 0 () = Nx :=
  (if_neg (by show ¬ 17 + (16 * g.val + r.val) < 9; omega)).trans (if_neg (by show ¬ 17 + (16 * g.val + r.val) < 17; omega))
/-- An arrival pays what a remote copy counts. -/
theorem amount_rv (r : Fin 16) (g : Fin 2) : (Rd (F := F) X G).amount (cell c (.dma (rvS r g))) 0 () = Nx :=
  (if_neg (by show ¬ 49 + (16 * g.val + r.val) < 9; omega)).trans (if_neg (by show ¬ 49 + (16 * g.val + r.val) < 17; omega))

/-- The barrier hands over nothing. -/
theorem payload_bar : (Rd (F := F) X G).payload (cell c (.reg barS)) 0 () = iprop(emp) := by
  show regPay (F := F) c barS = _
  unfold regPay; exact dif_neg (by show ¬ (16 < 16); omega)
/-- What a credit hands over. -/
theorem payload_cr (r : Fin 16) : (Rd (F := F) X G).payload (cell c (.reg (crS r))) 0 () = crPay c r := dif_pos r.isLt
/-- What a load hands over. -/
theorem payload_ld (k : Fin 8) : (Rd (F := F) X G).payload (cell c (.dma (ldS k))) 0 () = ldPay X c k := by
  show dmaPay X G c (ldS k) = _
  unfold dmaPay
  rw [dif_neg (by show ¬ 1 + k.val < 1; omega), dif_pos (by show 1 + k.val < 9; omega)]
  exact congrArg _ (Fin.ext (Nat.add_sub_cancel_left 1 k.val))
/-- What a store hands over. -/
theorem payload_st (k : Fin 8) : (Rd (F := F) X G).payload (cell c (.dma (stS k))) 0 () = stPay X G c k := by
  show dmaPay X G c (stS k) = _
  unfold dmaPay
  rw [dif_neg (by show ¬ 9 + k.val < 1; omega), dif_neg (by show ¬ 9 + k.val < 9; omega), dif_pos (by show 9 + k.val < 17; omega)]
  exact congrArg _ (Fin.ext (Nat.add_sub_cancel_left 9 k.val))
/-- What a departure hands over. -/
theorem payload_sd (r : Fin 16) (g : Fin 2) : (Rd (F := F) X G).payload (cell c (.dma (sdS r g))) 0 () = sdPay X c r g := by
  show dmaPay X G c (sdS r g) = _
  unfold dmaPay
  rw [dif_neg (by show ¬ 17 + (16 * g.val + r.val) < 1; omega), dif_neg (by show ¬ 17 + (16 * g.val + r.val) < 9; omega),
    dif_neg (by show ¬ 17 + (16 * g.val + r.val) < 17; omega), dif_pos (by show 17 + (16 * g.val + r.val) < 49; omega)]
  congr 1
  · exact Fin.ext (by show (17 + (16 * g.val + r.val) - 17) % 16 = r.val; omega)
  · exact Fin.ext (by show (17 + (16 * g.val + r.val) - 17) / 16 = g.val; omega)
/-- What an arrival hands over. -/
theorem payload_rv (r : Fin 16) (g : Fin 2) : (Rd (F := F) X G).payload (cell c (.dma (rvS r g))) 0 () = rvPay X c r g := by
  show dmaPay X G c (rvS r g) = _
  unfold dmaPay
  rw [dif_neg (by show ¬ 49 + (16 * g.val + r.val) < 1; omega), dif_neg (by show ¬ 49 + (16 * g.val + r.val) < 9; omega),
    dif_neg (by show ¬ 49 + (16 * g.val + r.val) < 17; omega), dif_neg (by show ¬ 49 + (16 * g.val + r.val) < 49; omega)]
  congr 1
  · exact Fin.ext (by show (49 + (16 * g.val + r.val) - 49) % 16 = r.val; omega)
  · exact Fin.ext (by show (49 + (16 * g.val + r.val) - 49) / 16 = g.val; omega)

end Sched

/-! ## What a device owes -/

/-- A unit to the barrier of its own; -/
def barT (c : Dev nD) : CellTallies nD τ sig Unit := tallyAt (cell c (.reg barS)) () 1
/-- the credit of distance `k + 1`; -/
def crT (c : Dev nD) (k : Fin 15) : CellTallies nD τ sig Unit := tallyAt (cell (bwd c (dist k)) (.reg (crS (dist k)))) () 1
/-- the arrival of half `g` over distance `k + 1`. -/
def rvT (g : Fin 2) (c : Dev nD) (k : Fin 15) : CellTallies nD τ sig Unit :=
  tallyAt (cell (fwd c (dist k)) (.dma (rvS (dist k) g))) () Nx

/-- The terms of a family from `n` on. -/
def tail (f : Fin 15 → CellTallies nD τ sig Unit) (n : ℕ) : CellTallies nD τ sig Unit :=
  ∑ k ∈ Finset.univ.filter (fun k : Fin 15 => n ≤ k.val), f k

/-- The terms from `k` on are term `k` and those after it. -/
theorem tail_peel (f : Fin 15 → CellTallies nD τ sig Unit) (k : Fin 15) : tail f k.val = tail f (k.val + 1) + f k := by
  unfold tail
  rw [show Finset.univ.filter (fun i : Fin 15 => k.val ≤ i.val) = insert k (Finset.univ.filter fun i : Fin 15 => k.val + 1 ≤ i.val) by
    ext i; simp only [Finset.mem_filter, Finset.mem_univ, true_and, Finset.mem_insert, Fin.ext_iff]; omega]
  rw [Finset.sum_insert (by simp), add_comm]

/-- There are no terms from 15 on. -/
theorem tail_end (f : Fin 15 → CellTallies nD τ sig Unit) : tail f 15 = 0 := by
  unfold tail
  rw [Finset.filter_false_of_mem (fun i _ => by omega), Finset.sum_empty]

/-- The terms from 0 on are all. -/
theorem tail_zero (f : Fin 15 → CellTallies nD τ sig Unit) : tail f 0 = ∑ k, f k := by
  unfold tail
  rw [Finset.filter_true_of_mem (fun i _ => Nat.zero_le _)]

/-- Before the credits `n`, … and all remote copies; before the copies `n`, … of half 0 and all of half 1; before
    the copies `n`, … of half 1. -/
def oweCr (c : Dev nD) (n : ℕ) : CellTallies nD τ sig Unit := (tail (rvT 1 c) 0 + tail (rvT 0 c) 0) + tail (crT c) n
/-- Owed when copies `n` on of half 0, and all of half 1, are still to be started. -/
def oweS0 (c : Dev nD) (n : ℕ) : CellTallies nD τ sig Unit := tail (rvT 1 c) 0 + tail (rvT 0 c) n
/-- Owed when copies `n` on of half 1 are still to be started. -/
def oweS1 (c : Dev nD) (n : ℕ) : CellTallies nD τ sig Unit := tail (rvT 1 c) n
/-- At launch. -/
def O₀ (c : Dev nD) : CellTallies nD τ sig Unit := oweCr c 0 + barT c

/-- Paying credit `k` leaves what is owed from credit `k + 1` on. -/
theorem oweCr_peel (c : Dev nD) (k : Fin 15) : oweCr c k.val = oweCr c (k.val + 1) + crT c k := by
  unfold oweCr; rw [tail_peel, ← add_assoc]
/-- Once the credits are all paid, only the copies are owed. -/
theorem oweCr_end (c : Dev nD) : oweCr c 15 = oweS0 c 0 := by unfold oweCr oweS0; rw [tail_end, add_zero]
/-- Starting copy `k` of half 0 leaves what is owed from copy `k + 1` on. -/
theorem oweS0_peel (c : Dev nD) (k : Fin 15) : oweS0 c k.val = oweS0 c (k.val + 1) + rvT 0 c k := by
  unfold oweS0; rw [tail_peel (rvT 0 c), ← add_assoc]
/-- Once the copies of half 0 are all started, only half 1 is owed. -/
theorem oweS0_end (c : Dev nD) : oweS0 c 15 = oweS1 c 0 := by unfold oweS0 oweS1; rw [tail_end, add_zero]
/-- Starting copy `k` of half 1 leaves what is owed from copy `k + 1` on. -/
theorem oweS1_peel (c : Dev nD) (k : Fin 15) : oweS1 c k.val = oweS1 c (k.val + 1) + rvT 1 c k := tail_peel _ k
/-- Once the copies of half 1 are all started, nothing is owed. -/
theorem oweS1_end (c : Dev nD) : oweS1 c 15 = 0 := tail_end _

/-! ## Levels -/

/-- The cells with a level: those of the TensorCores. -/
def L (g : GSem nD τ sig) : Finset Unit := if g.1.2 = .tc then {()} else ∅
/-- Arrivals at 3, credits at 2, the barrier at 1, the rest at 0. -/
def lv (g : GSem nD τ sig) (_ : Unit) : ℕ := match g.2 with
  | .reg i => if i.val < 16 then 2 else 1
  | .dma i => if 49 ≤ i.val then 3 else 0

/-- No cell elsewhere has a level. -/
theorem L_of_ne (g : GSem nD τ sig) (h : g.1.2 ≠ .tc) : L g = ∅ := if_neg h
/-- Every cell of a TensorCore has a level. -/
theorem L_tc (c : Dev nD) (sm : SemLoc sig) : L ((c : Thread nD τ), sm) = {()} := if_pos rfl

/-- Everything owed lies on TensorCores, above level `n`. -/
def Above (n : ℕ) (O : CellTallies nD τ sig Unit) : Prop := ∀ g u, 0 < O g u → g.1.2 = .tc ∧ n < lv g ()

/-- Nothing owed is above any level. -/
theorem above_zero (n : ℕ) : Above n 0 := fun g u h => absurd h (Nat.lt_irrefl 0)
/-- If two debts are above a level, so is their sum. -/
theorem above_add {n : ℕ} {O O' : CellTallies nD τ sig Unit} (h : Above n O) (h' : Above n O') : Above n (O + O') := by
  intro g u hg
  rw [Pi.add_apply, Finsupp.add_apply] at hg
  by_cases hO : 0 < O g u
  · exact h g u hO
  · exact h' g u (by omega)
/-- A debt to a cell whose level is higher is above the level. -/
theorem above_tally {n : ℕ} (c : Dev nD) (sm : SemLoc sig) (k : ℕ) (h : n < lv (cell c sm) ()) : Above n (tallyAt (cell c sm) () k) := by
  intro g u hg
  rw [tallyAt_apply] at hg
  by_cases he : g = cell c sm ∧ u = ()
  · rw [he.1]; exact ⟨rfl, h⟩
  · rw [if_neg he] at hg; exact absurd hg (Nat.lt_irrefl 0)
/-- If each term is above a level, so are the terms from `j` on. -/
theorem above_tail {n : ℕ} (f : Fin 15 → CellTallies nD τ sig Unit) (h : ∀ k, Above n (f k)) (j : ℕ) : Above n (tail f j) := by
  unfold tail
  refine Finset.sum_induction f (Above n) (fun _ _ => above_add) (above_zero n) fun k _ => h k

/-- A credit is at level 2. -/
theorem lv_cr (c : Dev nD) (r : Fin 16) : lv (cell c (.reg (crS r))) () = 2 := if_pos r.isLt
/-- An arrival is at level 3. -/
theorem lv_rv (c : Dev nD) (r : Fin 16) (g : Fin 2) : lv (cell c (.dma (rvS r g))) () = 3 := if_pos (Nat.le_add_right _ _)
/-- The barrier is at level 1. -/
theorem lv_bar (c : Dev nD) : lv (cell c (.reg barS)) () = 1 := by
  show (if (16 : ℕ) < 16 then 2 else 1) = 1
  decide
/-- A load is at level 0. -/
theorem lv_ld (c : Dev nD) (k : Fin 8) : lv (cell c (.dma (ldS k))) () = 0 := if_neg (by show ¬ 49 ≤ 1 + k.val; omega)

/-- All owed from the copies of half 1 on is above level 2. -/
theorem above_oweS1 (c : Dev nD) (j : ℕ) : Above 2 (oweS1 c j) := above_tail _ (fun k => above_tally _ _ _ (by rw [lv_rv]; decide)) j
/-- All owed from the copies of half 0 on is above level 2. -/
theorem above_oweS0 (c : Dev nD) (j : ℕ) : Above 2 (oweS0 c j) :=
  above_add (above_oweS1 c 0) (above_tail _ (fun k => above_tally _ _ _ (by rw [lv_rv]; decide)) j)
/-- What is above a level is above a lower one. -/
theorem above_mono {n k : ℕ} {O : CellTallies nD τ sig Unit} (h : Above k O) (hn : n ≤ k) : Above n O :=
  fun g u hg => ⟨(h g u hg).1, lt_of_le_of_lt hn (h g u hg).2⟩
/-- All owed from the credits on is above level 1. -/
theorem above_oweCr (c : Dev nD) (j : ℕ) : Above 1 (oweCr c j) :=
  above_add (above_mono (above_oweS0 c 0) (by decide)) (above_tail _ (fun k => above_tally _ _ _ (by rw [lv_cr]; decide)) j)

/-- All owed at launch is above level 0. -/
theorem above_O₀ (c : Dev nD) : Above 0 (O₀ c) :=
  above_add (above_mono (above_oweCr c 0) (Nat.zero_le _)) (above_tally _ _ _ (by rw [lv_bar]; decide))

/-- A device waits at a cell whose level is below everything it owes. -/
theorem mayWait (c : Dev nD) (sm : SemLoc sig) (n : ℕ) (O : CellTallies nD τ sig Unit) (hs : lv (cell c sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.KernelIdeal.Kp

end
-- ==== Proof.Steps.lean ====
/-
  What each step of the body does, on device `c` at an index of its loop.

  A step's lemma takes what the step uses up (first group), and the records of all semaphores with what the device
  owes; it ends with what the step gives back, and what the device owes then.
-/
module

public import proofs.«01_k».proof.Proof.Schedule

@[expose] public section

noncomputable section

namespace Cert.KernelIdeal.Kp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- No loop here needs a bound of its own. -/
abbrev 𝒱₀ : Variants := Variants.none

/-- The weakest precondition of a program of device `c`. -/
abbrev WP (c : Dev nD) (p : P F PUnit) (Q : PUnit → sProp 𝕄) : sProp 𝕄 :=
  wp frame (wpE (defs₀ (F := F)) 𝒱₀ (c : Thread nD τ) none) Set.univ p Q

/-! ## Loops -/

/-- A loop: each round takes its own part `A i` and what is carried at `i`, and leaves `B i` and what is carried at
    `i + 1`. -/
theorem wp_rep (c : Dev nD) (n : ℕ) (f : Fin n → P F PUnit) (A B : Fin n → sProp 𝕄) (R : ℕ → sProp 𝕄)
    (h : ∀ i, iprop(A i ∗ R i.val) ⊢ WP c (f i) fun _ => iprop(B i ∗ R (i.val + 1))) :
    iprop(bigSep Finset.univ A ∗ R 0) ⊢ WP c (rep n f) fun _ => iprop(bigSep Finset.univ B ∗ R n) := by
  induction n generalizing R with
  | zero =>
    show _ ⊢ WP c (pure ⟨⟩) _
    unfold WP
    rw [wp_pure]
    iintro ⟨-, HR⟩
    imodintro
    isplitr
    · rw [Finset.univ_eq_empty, bigSep_empty]; iempintro
    iexact HR
  | succ n ih =>
    show _ ⊢ WP c (f 0 >>= fun _ => rep n fun i => f i.succ) _
    unfold WP
    rw [wp_bind]
    have eA : ∀ Φ : Fin (n + 1) → sProp 𝕄, bigSep Finset.univ Φ = iprop(Φ 0 ∗ bigSep Finset.univ fun i : Fin n => Φ i.succ) := fun Φ => by
      rw [Fin.univ_succ, Finset.cons_eq_insert, bigSep_insert (by simp [Fin.succ_ne_zero]), bigSep_map]; rfl
    rw [eA A]
    have h0 : iprop(A 0 ∗ R 0) ⊢ WP c (f 0) fun _ => iprop(B 0 ∗ R (0 + 1)) := h 0
    have hn := ih (fun i => f i.succ) (fun i => A i.succ) (fun i => B i.succ) (fun k => R (k + 1)) fun i => h i.succ
    iintro ⟨⟨HA, HAs⟩, HR⟩
    ihave H := h0 $$ [HA HR]
    · isplitl [HA]; · iexact HA
      iexact HR
    iapply (wp_wand_r frame (wpE (defs₀ (F := F)) 𝒱₀ (c : Thread nD τ) none) Set.univ)
    isplitl [H]; · iexact H
    iintro %_ ⟨HB, HR⟩
    iapply (wp_wand_r frame (wpE (defs₀ (F := F)) 𝒱₀ (c : Thread nD τ) none) Set.univ)
    isplitl [HAs HR]
    · iapply hn
      isplitl [HAs]; · iexact HAs
      iexact HR
    iintro %_ ⟨HBs, HR⟩
    rw [eA B]
    isplitl [HB HBs]
    · isplitl [HB]; · iexact HB
      iexact HBs
    iexact HR

/-! ## The records of the semaphores -/

variable (X : Dev nD → S4096x1024.Idx → Elt F .f32) (G : Dev nD → S1024.Idx → Elt F .f32)

/-- The semaphores of the protocol: all but the pipeline's. -/
abbrev CellIx : Type := Fin 80 ⊕ Fin 17
/-- Its semaphore, by index. -/
def semOf : CellIx → SemLoc sig
  | .inl i => .dma (⟨1 + i.val, by omega⟩ : Fin 81)
  | .inr i => .reg i
/-- The cell of a device and an index. -/
abbrev kcell (p : Dev nD × CellIx) : GSem nD τ sig := cell p.1 (semOf p.2)

/-- The levels. -/
def Lev : sProp 𝕄 := levAts L lv
/-- The levels can be kept by everyone. -/
instance Lev_persistent : BI.Persistent (Lev (F := F)) := by unfold Lev; infer_instance

/-- The invariant of every cell, that it is at its first round, and the levels: facts all devices share. -/
def Rec : sProp 𝕄 :=
  iprop(Lev ∗ bigSep Finset.univ fun p : Dev nD × CellIx => iprop(∃ n : ℕ, cellInv ER (Rd X G) n (kcell p) ∗ reached ER (kcell p) 0))
/-- The shared facts can be kept by everyone. -/
instance Rec_persistent : BI.Persistent (Rec X G) := by unfold Rec; infer_instance

/-- The record of one used cell. -/
theorem rec_cell (c : Dev nD) (sm : SemLoc sig) (h : used sm = true) :
    Rec X G ⊢ iprop((∃ n : ℕ, cellInv ER (Rd X G) n (cell c sm) ∗ reached ER (cell c sm) 0) ∗ Lev) := by
  have hp : ∃ p : CellIx, semOf p = sm := by
    cases sm with
    | reg i => exact ⟨.inr i, rfl⟩
    | dma i =>
      have hi : i.val < 81 := i.isLt
      have h0 : i.val ≠ 0 := by
        intro h0
        have : i = (0 : Fin 81) := Fin.ext h0
        subst this; exact absurd h (by decide)
      exact ⟨.inl ⟨i.val - 1, by omega⟩, congrArg SemLoc.dma (Fin.ext (by show 1 + (i.val - 1) = i.val; omega))⟩
  obtain ⟨p, rfl⟩ := hp
  unfold Rec
  have e : (bigSep Finset.univ fun p : Dev nD × CellIx => iprop(∃ n : ℕ, cellInv ER (Rd (F := F) X G) n (kcell p) ∗ reached ER (kcell p) 0) : sProp 𝕄)
      ⊢ iprop(∃ n : ℕ, cellInv ER (Rd (F := F) X G) n (kcell (c, p)) ∗ reached ER (kcell (c, p)) 0) := bigSep_elim (Finset.mem_univ (c, p))
  iintro ⟨HL, H⟩
  isplitr [HL]
  · ihave H := e $$ H
    iexact H
  iexact HL

/-- What device `c` owes, whatever it has waited for. -/
def Own (c : Dev nD) (O : CellTallies nD τ sig Unit) : sProp 𝕄 := iprop(∃ W, owes (c : Thread nD τ) O W)
/-- The right to pay a cell; the credit to wait for it; the device's place at it. -/
def tok (c : Dev nD) (sm : SemLoc sig) : sProp 𝕄 := dutyTok ER (cell c sm) 0 ()
/-- The credit to wait for a cell. -/
def crd (c : Dev nD) (sm : SemLoc sig) (n : ℕ) : sProp 𝕄 := cred (tallyAt (cell c sm) () n)
/-- The device's place at a cell. -/
def posn (c : Dev nD) (sm : SemLoc sig) (n : ℕ) : sProp 𝕄 := atPos ER (cell c sm) n ∅ 0

/-! ## Waits -/

/-- A wait for a used cell: the payment is the device's. -/
theorem wp_wait (c : Dev nD) (sm : SemLoc sig) (w : TpuEff nD τ sig (Elt F) Λ₀ .tc PUnit) (k' : ℕ)
    (hw : ∀ K : PUnit → sProp 𝕄, wpE (defs₀ (F := F)) 𝒱₀ (c : Thread nD τ) none Set.univ w K = waitSpec (c : Thread nD τ) Set.univ sm k' K)
    (hu : used sm = true) (hk : (Rd (F := F) X G).amount (cell c sm) 0 () = k') (O : CellTallies nD τ sig Unit)
    (hm : Lev (F := F) ⊢ MayWait (c : Thread nD τ) sm () O) (k : PUnit → P F PUnit) (Q : PUnit → sProp 𝕄) :
    iprop((crd c sm k' ∗ posn c sm 0) ∗ Rec X G ∗ Own c O)
      ⊢ iprop((((Rd X G).payload (cell c sm) 0 () ∗ posn c sm 1 ∗ Own c O) -∗ WP c (k ⟨⟩) Q) -∗ WP c (.op w k) Q) := by
  unfold crd posn Own
  iintro ⟨⟨Hc, Ha⟩, #HR, ⟨%W, HO⟩⟩ Hk
  ihave ⟨⟨%n, #HI, -⟩, #Hl⟩ := (rec_cell X G c sm hu) $$ [HR]
  · iexact HR
  iapply (Rounds.wp_wait_rest_token 𝒱₀ ER (Rd X G) (c : Thread nD τ) none (κ := n) hw (Set.mem_univ _) () (O := O) (W := W) (R := 0) (m := 0) (T := ∅)
    ((Nat.zero_add k').trans (hk.symm.trans (expect_used X G c sm hu).symm))) $$ [Hc HO Ha]
  · isplitr; · iexact HI
    isplitl [Hc]; · iexact Hc
    isplitl [HO]; · iexact HO
    isplitr; · iapply hm; iexact Hl
    iexact Ha
  iintro ⟨HO, Ha, -, Hp⟩
  ihave Hp := (Entails.of_eq (rest_used X G c sm hu)) $$ Hp
  iapply Hk
  isplitl [Hp]; · iexact Hp
  isplitl [Ha]; · iexact Ha
  iexists _; iexact HO

/-- A device that owes nothing may wait for anything. -/
theorem mayWait_nothing (c : Dev nD) (sm : SemLoc sig) : Lev (F := F) ⊢ MayWait (c : Thread nD τ) sm () 0 := by
  unfold Lev; rw [MayWait_zero]; iintro -; iempintro

/-! ## The windows of the copies -/

/-- The elements of a chunk of x. -/
theorem set_xW (k : Fin 8) : (xW k).view.set = (chunkR k).set := View.set_slice_whole _ _
/-- The elements of a chunk of x in fast memory. -/
theorem set_xvW (k : Fin 8) : (xvW k).view.set = (chunkR k).set := View.set_slice_whole _ _
/-- The elements of a chunk of the result in fast memory. -/
theorem set_ovW (k : Fin 8) : (ovW k).view.set = (chunkR k).set := View.set_slice_whole _ _
/-- The elements of a chunk of the result. -/
theorem set_oW (k : Fin 8) : (oW k).view.set = (chunkR k).set := View.set_slice_whole _ _
/-- The elements of half a row of sums. -/
theorem set_cmW (r : Fin 16) (g : Fin 2) : (cmW r g).view.set = (segR r g).set := by
  rw [show (cmW r g).view.set = ((View.whole cc0_scratch2).slice (segR r g)).set from View.set_reshape _ _, View.set_slice_whole]
/-- A load of a chunk of x touches that chunk. -/
theorem setOn_xv (k : Fin 8) : (xvM.access (chunkR k)).setOn Finset.univ ⊆ (chunkR k).set := by
  rw [View.setOn_univ]; exact (View.set_slice_whole _ _).subset
/-- A store of a chunk of the result touches that chunk. -/
theorem setOn_ov (k : Fin 8) : (ovM.access (chunkR k)).setOn Finset.univ ⊆ (chunkR k).set := by
  rw [View.setOn_univ]; exact (View.set_slice_whole _ _).subset
/-- A store of a piece of sums touches that piece. -/
theorem setOn_cm (k : Fin 8) : (cmM.access (pieceR k)).setOn Finset.univ ⊆ (pieceR k).set := by
  rw [View.setOn_univ]; exact (View.set_slice_whole _ _).subset

/-! ## The start -/

/-- The device's signal to its own barrier semaphore. -/
theorem step_bar (c : Dev nD) :
    iprop(tok c (.reg barS) ∗ Rec X G ∗ Own c (O₀ c)) ⊢ WP c (semSignalHereWord barS 1#32) fun _ => Own c (oweCr c 0) := by
  unfold tok Own WP semSignalHereWord
  rw [wp_deviceId]
  iintro ⟨Ht, #HR, ⟨%W, HO⟩⟩
  ihave ⟨⟨%n, #HI, #Hr⟩, -⟩ := (rec_cell X G c (.reg barS) used_bar) $$ [HR]
  · iexact HR
  iapply (Rounds.wp_signal 𝒱₀ ER (Rd X G) (c : Thread nD τ) none (dst := (c : Thread nD τ)) (κ := n) (r := 0)
      (d := ()) (by rw [duties_used X G c _ used_bar]; exact Finset.mem_univ _) ((amount_reg X G c barS).trans (by decide)) () (oweCr c 0) rfl)
    $$ [HO Ht]
  · isplitr; · iexact HI
    isplitl [HO]; · iexact HO
    isplitl [Ht]; · iexact Ht
    isplitr; · rw [payload_bar]; iempintro
    iexact Hr
  iintro HO
  rw [wp_ret]; imodintro
  iexists _; iexact HO

/-- The wait for it. -/
theorem step_barWait (c : Dev nD) :
    iprop((crd c (.reg barS) 1 ∗ posn c (.reg barS) 0) ∗ Rec X G ∗ Own c (oweCr c 0))
      ⊢ WP c (semWaitWord barS 1#32) fun _ => iprop(posn c (.reg barS) 1 ∗ Own c (oweCr c 0)) := by
  unfold semWaitWord
  iintro H
  iapply (wp_wait X G c (.reg barS) _ 1 (wpE_semWait_eq 𝒱₀ (c : Thread nD τ) none Set.univ) used_bar rfl (oweCr c 0)
    (mayWait c _ 1 _ (le_of_eq (lv_bar c)) (above_oweCr c 0)) _ _) $$ H
  iintro ⟨-, Ha, HO⟩
  unfold WP; rw [wp_ret]; imodintro
  isplitl [Ha]; · iexact Ha
  iexact HO

/-- The credit of distance `k + 1`: the row its target's remote copies write is the target's to write. -/
theorem step_cr (c : Dev nD) (k : Fin 15) :
    iprop(((∃ f, cmP c (segR (dist k) 0).set fullShare f) ∗ (∃ f, cmP c (segR (dist k) 1).set fullShare f)
        ∗ tok (bwd c (dist k)) (.reg (crS (dist k)))) ∗ Rec X G ∗ Own c (oweCr c k.val))
      ⊢ WP c (semSignalWord (credDev c k) (crS (dist k)) 1#32) fun _ => Own c (oweCr c (k.val + 1)) := by
  unfold semSignalWord
  rw [credDev_bwd, oweCr_peel]
  unfold tok Own WP
  iintro ⟨⟨H0, H1, Ht⟩, #HR, ⟨%W, HO⟩⟩
  ihave ⟨⟨%n, #HI, #Hr⟩, -⟩ := (rec_cell X G (bwd c (dist k)) (.reg (crS (dist k))) (used_cr k)) $$ [HR]
  · iexact HR
  iapply (Rounds.wp_signal 𝒱₀ ER (Rd X G) (c : Thread nD τ) none (dst := (bwd c (dist k) : Thread nD τ)) (κ := n) (r := 0)
      (d := ()) (by rw [duties_used X G _ _ (used_cr k)]; exact Finset.mem_univ _) ((amount_reg X G _ (crS (dist k))).trans (by decide)) ()
      (oweCr c (k.val + 1)) rfl)
    $$ [HO Ht H0 H1]
  · isplitr; · iexact HI
    isplitl [HO]; · iexact HO
    isplitl [Ht]; · iexact Ht
    isplitl [H0 H1]
    · rw [payload_cr]; unfold crPay rowP; rw [fwd_bwd]
      isplitl [H0]; · iexact H0
      iexact H1
    iexact Hr
  iintro HO
  rw [wp_ret]; imodintro
  iexists _; iexact HO

/-! ## The copies of x and their sums -/

/-- Start the copy of chunk `k` of x. -/
theorem step_load (c : Dev nD) (k : Fin 8) :
    iprop((xP c k (X c) ∗ (∃ f, xvP c k f) ∗ tok c (.dma (ldS k))) ∗ Rec X G)
      ⊢ WP c (startLoad k) fun _ => crd c (.dma (ldS k)) Nld := by
  unfold startLoad tok crd WP
  iintro ⟨⟨Hx, ⟨%f, Hxv⟩, Ht⟩, #HR⟩
  ihave ⟨⟨%n, #HI, #Hr⟩, -⟩ := (rec_cell X G c (.dma (ldS k)) (used_ld k)) $$ [HR]
  · iexact HR
  unfold xP xvP
  iapply (Rounds.wp_copy_pointsTo 𝒱₀ ER (Rd X G) (c : Thread nD τ) none (src := xW k) (dst := xvW k) (sem := .dma (ldS k)) (q := fullShare)
    (fs := X c) (fd := f) (r := 0) (d := ()) (κ := n)
    (by rw [duties_used X G _ _ (used_ld k)]; exact Finset.mem_univ _) () Nld rfl (amount_ld X G c k)
    (by
      rw [payload_ld, set_xW, set_xvW]; unfold ldPay xP xvP
      exact sep_mono_left (Entails.of_eq (pointsTo_congr (write_load k f (X c)))))) $$ [Hx Hxv Ht]
  · isplitr; · iexact HI
    isplitl [Hx]; · rw [set_xW]; iexact Hx
    isplitl [Hxv]; · rw [set_xvW]; iexact Hxv
    isplitl [Ht]; · iexact Ht
    iexact Hr
  iintro HC
  rw [wp_ret]; imodintro
  iexact HC

end Cert.KernelIdeal.Kp

end
-- ==== Proof.Transfers.lean ====
/-
  The steps of the body, continued: the sums of one chunk, the remote copies and their waits, one chunk of the result
  and its copy.
-/
module

public import proofs.«01_k».proof.Proof.Steps

@[expose] public section

noncomputable section

namespace Cert.KernelIdeal.Kp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → S4096x1024.Idx → Elt F .f32) (G : Dev nD → S1024.Idx → Elt F .f32)

/-- A wait for a copy, by the credit of its destination. -/
theorem wp_dmaWait (c : Dev nD) (sm : DmaSem sig) {sp sp' : Space} {s s' : Shape} {e e' : EltTy} (src : Memref sig .tc sp' s' e') (dst : Memref sig .tc sp s e)
    (hsrc : src.view.WordExact) (hdst : dst.view.WordExact) (k' : ℕ) (hN : dst.view.dmaCredit = k')
    (hu : used (.dma sm) = true) (hk : (Rd (F := F) X G).amount (cell c (.dma sm)) 0 () = k') (O : CellTallies nD τ sig Unit)
    (hm : Lev (F := F) ⊢ MayWait (c : Thread nD τ) (.dma sm) () O) (k : PUnit → P F PUnit) (Q : PUnit → sProp 𝕄) :
    iprop((crd c (.dma sm) k' ∗ posn c (.dma sm) 0) ∗ Rec X G ∗ Own c O)
      ⊢ iprop((((Rd X G).payload (cell c (.dma sm)) 0 () ∗ posn c (.dma sm) 1 ∗ Own c O) -∗ WP c (k ⟨⟩) Q)
          -∗ WP c (.op (.waitDma2 sm src dst hsrc hdst) k) Q) := by
  subst hN
  exact wp_wait X G c (.dma sm) _ _ (wpE_waitDma2_eq 𝒱₀ (c : Thread nD τ) none Set.univ) hu hk O hm k Q

/-- Reading a set of the sums touches that set. -/
theorem setOn_cm' (S : Finset S16x4096.Idx) : cmM.view.setOn S ⊆ S := by
  intro i hi; obtain ⟨x, hx, rfl⟩ := Finset.mem_map.mp hi; exact hx
/-- Reading a set of x in fast memory touches that set. -/
theorem setOn_xv' (S : Finset S4096x1024.Idx) : xvM.view.setOn S ⊆ S := by
  intro i hi; obtain ⟨x, hx, rfl⟩ := Finset.mem_map.mp hi; exact hx
/-- Reading a set of the result in fast memory touches that set. -/
theorem setOn_ov' (S : Finset S4096x1024.Idx) : ovM.view.setOn S ⊆ S := by
  intro i hi; obtain ⟨x, hx, rfl⟩ := Finset.mem_map.mp hi; exact hx

/-- Wait for chunk `k` of x and store its rows' sums of squares. -/
theorem step_sum (c : Dev nD) (k : Fin 8) (O : CellTallies nD τ sig Unit) (hO : Above 0 O) :
    iprop(((crd c (.dma (ldS k)) Nld ∗ posn c (.dma (ldS k)) 0) ∗ (∃ f, cmP c (pieceR k).set fullShare f)) ∗ Rec X G ∗ Own c O)
      ⊢ WP c (sumChunk k) fun _ => iprop((xvP c k (X c) ∗ xP c k (X c) ∗ posn c (.dma (ldS k)) 1
        ∗ cmP c (pieceR k).set fullShare (commV X c)) ∗ Own c O) := by
  unfold sumChunk
  simp only [Prog.lift, Prog.bind_op, Prog.bind_ret]
  iintro ⟨⟨Hw, ⟨%f, Hc⟩⟩, HR, HO⟩
  iapply (wp_dmaWait X G c (ldS k) (xW k) (xvW k) _ _ Nld rfl (used_ld k) (amount_ld X G c k) O
    (mayWait c _ 0 _ (le_of_eq (lv_ld c k)) hO) _ _) $$ [Hw HR HO]
  · isplitl [Hw]; · iexact Hw
    isplitl [HR]; · iexact HR
    iexact HO
  rw [payload_ld]
  unfold ldPay WP
  iintro ⟨⟨Hxv, Hx⟩, Ha, HO⟩
  unfold xvP cmP
  iapply (wp_load 𝒱₀ (c : Thread nD τ) none Set.univ (m := xvM) (r := (chunkR k).toLoadRect) (S := (chunkR k).set) (setOn_xv' _)) $$ Hxv; iintro Hxv
  iapply (wp_load 𝒱₀ (c : Thread nD τ) none Set.univ (m := cmM) (r := (pieceR k).toLoadRect) (S := (pieceR k).set) (setOn_cm' _)) $$ Hc; iintro Hc
  iapply (wp_store 𝒱₀ (c : Thread nD τ) none Set.univ (m := cmM) (r := pieceR k) (Mk := Finset.univ) (S := (pieceR k).set) (setOn_cm k)) $$ Hc; iintro Hc
  ihave Hc := (Entails.of_eq (pointsTo_congr (write_piece X c k f))) $$ Hc
  rw [wp_ret]; imodintro
  isplitr [HO]
  · isplitl [Hxv]; · iexact Hxv
    isplitl [Hx]; · iexact Hx
    isplitl [Ha]; · iexact Ha
    iexact Hc
  iexact HO

/-- Start the remote copy of half `g` over distance `k + 1`. -/
theorem step_send (c : Dev nD) (g : Fin 2) (k : Fin 15) (t : Dev nD) (ht : t = fwd c (dist k)) (O O' : CellTallies nD τ sig Unit)
    (hO : O = O' + rvT g c k) :
    iprop((cmP c (segR 0 g).set (tokQ (dist k)) (commV X c) ∗ rowP (F := F) c (dist k) g
        ∗ tok c (.dma (sdS (dist k) g)) ∗ tok (fwd c (dist k)) (.dma (rvS (dist k) g))) ∗ Rec X G ∗ Own c O)
      ⊢ WP c (sendSeg g k t) fun _ => iprop(crd c (.dma (sdS (dist k) g)) Nx ∗ Own c O') := by
  subst ht
  unfold sendSeg tok crd rowP Own WP
  iintro ⟨⟨Hs, ⟨%f, Hd⟩, Ht, Ht'⟩, #HR, ⟨%W, HO⟩⟩
  ihave ⟨⟨%n, #HI, #Hr⟩, -⟩ := (rec_cell X G c (.dma (sdS (dist k) g)) (used_sd k g)) $$ [HR]
  · iexact HR
  ihave ⟨⟨%n', #HI', #Hr'⟩, -⟩ := (rec_cell X G (fwd c (dist k)) (.dma (rvS (dist k) g)) (used_rv k g)) $$ [HR]
  · iexact HR
  unfold cmP
  iapply (Rounds.wp_send_pointsTo 𝒱₀ ER (Rd X G) (c : Thread nD τ) none (c' := (fwd c (dist k) : Thread nD τ)) (src := cmW 0 g)
    (dst := cmW (dist k) g) (sS := .dma (sdS (dist k) g)) (sem := .dma (rvS (dist k) g)) (κ₁ := n) (κ₂ := n')
    (q := tokQ (dist k)) (fs := commV X c) (fd := f) (r₁ := 0) (r₂ := 0) (d₁ := ()) (d₂ := ())
    (by rw [duties_used X G _ _ (used_sd k g)]; exact Finset.mem_univ _) (by rw [duties_used X G _ _ (used_rv k g)]; exact Finset.mem_univ _)
    () () Nx rfl (amount_sd X G c _ g) (amount_rv X G _ _ g) O' hO (W := W)
    (by rw [payload_sd, set_cmW]; unfold sdPay cmP; exact .rfl)
    (by rw [payload_rv, set_cmW]; unfold rvPay cmP; exact Entails.of_eq (pointsTo_congr (write_seg X c (dist k) g f)))) $$ [Hs Hd HO Ht Ht']
  · isplitr; · iexact HI
    isplitr; · iexact HI'
    isplitl [Hs]; · rw [set_cmW]; iexact Hs
    isplitl [Hd]; · rw [set_cmW]; iexact Hd
    isplitl [HO]; · iexact HO
    isplitl [Ht]; · iexact Ht
    isplitr; · iexact Hr
    isplitl [Ht']; · iexact Ht'
    iexact Hr'
  iintro ⟨HC, HO⟩
  rw [wp_ret]; imodintro
  isplitl [HC]; · iexact HC
  iexists _; iexact HO

/-- The first half: wait for the target's credit, which brings both halves of its row, and start the remote copy. -/
theorem step_send0 (c : Dev nD) (k : Fin 15) :
    iprop(((crd c (.reg (crS (dist k))) 1 ∗ posn c (.reg (crS (dist k))) 0)
        ∗ cmP c (segR 0 0).set (tokQ (dist k)) (commV X c)
        ∗ tok c (.dma (sdS (dist k) 0)) ∗ tok (fwd c (dist k)) (.dma (rvS (dist k) 0))) ∗ Rec X G ∗ Own c (oweS0 c k.val))
      ⊢ WP c (semWaitWord (crS (dist k)) 1#32 >>= fun _ => sendSeg 0 k (sendDev0 c k)) fun _ =>
        iprop((posn c (.reg (crS (dist k))) 1 ∗ rowP (F := F) c (dist k) 1 ∗ crd c (.dma (sdS (dist k) 0)) Nx) ∗ Own c (oweS0 c (k.val + 1))) := by
  unfold semWaitWord
  simp only [Prog.bind_op, Prog.bind_ret]
  iintro ⟨⟨Hw, Hs, Ht, Ht'⟩, #HR, HO⟩
  iapply (wp_wait X G c (.reg (crS (dist k))) _ 1 (wpE_semWait_eq 𝒱₀ (c : Thread nD τ) none Set.univ) (used_cr k) rfl (oweS0 c k.val)
    (mayWait c _ 2 _ (le_of_eq (lv_cr c _)) (above_oweS0 c _)) _ _) $$ [Hw HO]
  · isplitl [Hw]; · iexact Hw
    isplitr; · iexact HR
    iexact HO
  rw [payload_cr]
  unfold crPay
  iintro ⟨⟨H0, H1⟩, Ha, HO⟩
  ihave H := (step_send X G c 0 k (sendDev0 c k) (sendDev0_fwd c k) _ _ (oweS0_peel c k)) $$ [Hs H0 Ht Ht' HO]
  · isplitl [Hs H0 Ht Ht']
    · isplitl [Hs]; · iexact Hs
      isplitl [H0]; · iexact H0
      isplitl [Ht]; · iexact Ht
      iexact Ht'
    isplitr; · iexact HR
    iexact HO
  unfold WP
  iapply (wp_wand_r frame (wpE (defs₀ (F := F)) 𝒱₀ (c : Thread nD τ) none) Set.univ)
  isplitl [H]; · iexact H
  iintro %_ ⟨HC, HO⟩
  isplitr [HO]
  · isplitl [Ha]; · iexact Ha
    isplitl [H1]; · iexact H1
    iexact HC
  iexact HO

/-- The second half. -/
theorem step_send1 (c : Dev nD) (k : Fin 15) :
    iprop((cmP c (segR 0 1).set (tokQ (dist k)) (commV X c) ∗ rowP (F := F) c (dist k) 1
        ∗ tok c (.dma (sdS (dist k) 1)) ∗ tok (fwd c (dist k)) (.dma (rvS (dist k) 1))) ∗ Rec X G ∗ Own c (oweS1 c k.val))
      ⊢ WP c (sendSeg 1 k (sendDev1 c k)) fun _ => iprop(crd c (.dma (sdS (dist k) 1)) Nx ∗ Own c (oweS1 c (k.val + 1))) :=
  step_send X G c 1 k (sendDev1 c k) (sendDev1_fwd c k) _ _ (oweS1_peel c k)

/-- The arrival of half `g` over distance `k + 1`. -/
theorem step_recv (c : Dev nD) (g : Fin 2) (k : Fin 15) :
    iprop((crd c (.dma (rvS (dist k) g)) Nx ∗ posn c (.dma (rvS (dist k) g)) 0) ∗ Rec X G ∗ Own c 0)
      ⊢ WP c (recvSeg g k) fun _ => iprop((posn c (.dma (rvS (dist k) g)) 1 ∗ cmP c (segR (dist k) g).set fullShare (commV X c)) ∗ Own c 0) := by
  unfold recvSeg Prog.lift
  iintro H
  iapply (wp_dmaWait X G c (rvS (dist k) g) (cmW 0 g) (cmW (dist k) g) _ _ Nx rfl (used_rv k g) (amount_rv X G c _ g) 0
    (mayWait_nothing c _) _ _) $$ H
  rw [payload_rv]
  unfold rvPay WP
  iintro ⟨Hp, Ha, HO⟩
  rw [wp_ret]; imodintro
  isplitr [HO]
  · isplitl [Ha]; · iexact Ha
    iexact Hp
  iexact HO

/-- The departure of half `g` over distance `k + 1`. -/
theorem step_sent (c : Dev nD) (g : Fin 2) (k : Fin 15) :
    iprop((crd c (.dma (sdS (dist k) g)) Nx ∗ posn c (.dma (sdS (dist k) g)) 0) ∗ Rec X G ∗ Own c 0)
      ⊢ WP c (sentSeg g k) fun _ => iprop((posn c (.dma (sdS (dist k) g)) 1 ∗ cmP c (segR 0 g).set (tokQ (dist k)) (commV X c)) ∗ Own c 0) := by
  unfold sentSeg Prog.lift
  iintro H
  iapply (wp_dmaWait X G c (sdS (dist k) g) (cmW (dist k) g) (cmW 0 g) _ _ Nx rfl (used_sd k g) (amount_sd X G c _ g) 0
    (mayWait_nothing c _) _ _) $$ H
  rw [payload_sd]
  unfold sdPay WP
  iintro ⟨Hp, Ha, HO⟩
  rw [wp_ret]; imodintro
  isplitr [HO]
  · isplitl [Ha]; · iexact Ha
    iexact Hp
  iexact HO

/-- The end of the copy of chunk `k` of the result. -/
theorem step_stored (c : Dev nD) (k : Fin 8) :
    iprop((crd c (.dma (stS k)) Nst ∗ posn c (.dma (stS k)) 0) ∗ Rec X G ∗ Own c 0)
      ⊢ WP c (storedChunk k) fun _ => iprop((posn c (.dma (stS k)) 1 ∗ oP c k (outV X G c) ∗ ovP c k (outV X G c)) ∗ Own c 0) := by
  unfold storedChunk Prog.lift
  iintro H
  iapply (wp_dmaWait X G c (stS k) (ovW k) (oW k) _ _ Nst rfl (used_st k) (amount_st X G c k) 0
    (mayWait_nothing c _) _ _) $$ H
  rw [payload_st]
  unfold stPay WP
  iintro ⟨⟨Ho, Hov⟩, Ha, HO⟩
  rw [wp_ret]; imodintro
  isplitr [HO]
  · isplitl [Ha]; · iexact Ha
    isplitl [Ho]; · iexact Ho
    iexact Hov
  iexact HO

/-- The device's piece of gamma in fast memory. -/
def gP (c : Dev nD) : sProp 𝕄 := ((c : Thread nD τ).loc cc0_stg0_0) ↦{fullShare} (G c)

/-- A load of all of gamma reads gamma. -/
theorem read_g (c : Dev nD) : gM.view.readAt (Elt F) (Rect.unit (s := S1024) ![0] S1024.size inb_S1024_S1024_0).toLoadRect (G c) = G c :=
  Memref.readAt_unit_zero (Elt F) cc0_stg0_0 (funext fun a => by fin_cases a; rfl) _ _

/-- Compute chunk `j` of half `g` of the result and start its copy. -/
theorem step_out (c : Dev nD) (g : Fin 2) (j : Fin 4) :
    iprop((xvP c (chunkOf g j) (X c) ∗ (∃ f, ovP c (chunkOf g j) f) ∗ (∃ f, oP c (chunkOf g j) f) ∗ tok c (.dma (stS (chunkOf g j))))
        ∗ Rec X G ∗ cmP c (halfS g) fullShare.left (commV X c) ∗ gP G c)
      ⊢ WP c (outChunk (chunkOf g j)) fun _ => iprop((xvP c (chunkOf g j) (X c) ∗ crd c (.dma (stS (chunkOf g j))) Nst)
        ∗ cmP c (halfS g) fullShare.left (commV X c) ∗ gP G c) := by
  generalize hk : chunkOf g j = k
  have hsub : (stackR k).set ⊆ halfS g := hk ▸ stack_sub g j
  unfold outChunk tok crd WP
  simp only [Prog.lift, Prog.bind_op, Prog.bind_ret]
  iintro ⟨⟨Hxv, ⟨%f, Hov⟩, ⟨%f', Ho⟩, Ht⟩, #HR, Hc, Hg⟩
  ihave ⟨⟨%n, #HI, #Hr⟩, -⟩ := (rec_cell X G c (.dma (stS k)) (used_st k)) $$ [HR]
  · iexact HR
  unfold xvP ovP oP cmP gP
  iapply (wp_load 𝒱₀ (c : Thread nD τ) none Set.univ (m := cmM) (r := (stackR k).toLoadRect) (S := halfS g) ((setOn_cm' _).trans hsub)) $$ Hc; iintro Hc
  iapply (wp_load 𝒱₀ (c : Thread nD τ) none Set.univ (m := xvM) (r := (chunkR k).toLoadRect) (S := (chunkR k).set) (setOn_xv' _)) $$ Hxv; iintro Hxv
  iapply (wp_load 𝒱₀ (c : Thread nD τ) none Set.univ (m := gM) (Finset.subset_univ _)) $$ Hg; iintro Hg
  rw [read_g]
  iapply (wp_load 𝒱₀ (c : Thread nD τ) none Set.univ (m := ovM) (r := (chunkR k).toLoadRect) (S := (chunkR k).set) (setOn_ov' _)) $$ Hov; iintro Hov
  iapply (wp_store 𝒱₀ (c : Thread nD τ) none Set.univ (m := ovM) (r := chunkR k) (Mk := Finset.univ) (S := (chunkR k).set) (setOn_ov k)) $$ Hov; iintro Hov
  ihave Hov := (Entails.of_eq (pointsTo_congr (write_out X G c k f))) $$ Hov
  iapply (Rounds.wp_copy_pointsTo 𝒱₀ ER (Rd X G) (c : Thread nD τ) none (src := ovW k) (dst := oW k) (sem := .dma (stS k)) (q := fullShare)
    (fs := outV X G c) (fd := f') (r := 0) (d := ()) (κ := n)
    (by rw [duties_used X G _ _ (used_st k)]; exact Finset.mem_univ _) () Nst rfl (amount_st X G c k)
    (by
      rw [payload_st, set_oW, set_ovW]; unfold stPay oP ovP
      exact sep_mono_left (Entails.of_eq (pointsTo_congr (write_store k f' (outV X G c)))))) $$ [Hov Ho Ht]
  · isplitr; · iexact HI
    isplitl [Hov]; · rw [set_ovW]; iexact Hov
    isplitl [Ho]; · rw [set_oW]; iexact Ho
    isplitl [Ht]; · iexact Ht
    iexact Hr
  iintro HC
  rw [wp_ret]; imodintro
  isplitl [Hxv HC]
  · isplitl [Hxv]; · iexact Hxv
    iexact HC
  isplitl [Hc]; · iexact Hc
  iexact Hg

end Cert.KernelIdeal.Kp

end
-- ==== Proof.Split.lean ====
/-
  Cutting the buffers into the windows the steps use, and putting them together again.
-/
module

public import proofs.«01_k».proof.Proof.Steps

@[expose] public section

noncomputable section

namespace Cert.KernelIdeal.Kp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type}

local notation "𝕄" => MT nD τ sig Unit (Elt F) ℕ UU ℕ

/-! ## Families -/

/-- A family over one more index: the first and the rest. -/
theorem bigSep_first {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

/-- A family over the chunks: the first half's and the second half's. -/
theorem bigSep_chunks (Φ : Fin 8 → sProp 𝕄) :
    bigSep Finset.univ Φ = iprop((bigSep Finset.univ fun j : Fin 4 => Φ (chunkOf 0 j)) ∗ bigSep Finset.univ fun j : Fin 4 => Φ (chunkOf 1 j)) := by
  rw [bigSep_univ_equiv (finProdFinEquiv : Fin 2 × Fin 4 ≃ Fin 8), bigSep_univ_prod, bigSep_fin_two]
  have e : ∀ (g : Fin 2) (j : Fin 4), (finProdFinEquiv (g, j) : Fin 8) = chunkOf g j := by decide
  simp only [e]
  rfl

/-- Assertions that entail each other are equal. -/
theorem sep_eq {P P' : sProp 𝕄} (h : P ⊣⊢ P') : P = P' := equiv_iff.mp ⟨h.1, h.2⟩

/-! ## The arrays of rows -/

/-- Different chunks share no element. -/
theorem chunks_disj : ∀ t ∈ (Finset.univ : Finset (Fin 8)), ∀ t' ∈ (Finset.univ : Finset (Fin 8)), t ≠ t' → Disjoint (chunkR t).set (chunkR t').set :=
  fun t _ t' _ h => chunk_disj t t' h

/-- x is its eight chunks. -/
theorem x_chunks (c : Dev nD) (f : S4096x1024.Idx → Elt F .f32) :
    (((c : Thread nD τ).loc main_arg0) ↦{fullShare} f : sProp 𝕄) = bigSep Finset.univ fun k => xP c k f := by
  unfold xP; rw [← pointsTo_biUnion _ _ chunks_disj, ← chunk_cover]
/-- The fast copy of x is its eight chunks. -/
theorem xv_chunks (c : Dev nD) (f : S4096x1024.Idx → Elt F .f32) :
    (((c : Thread nD τ).loc cc0_scratch0) ↦{fullShare} f : sProp 𝕄) = bigSep Finset.univ fun k => xvP c k f := by
  unfold xvP; rw [← pointsTo_biUnion _ _ chunks_disj, ← chunk_cover]
/-- The fast copy of the result is its eight chunks. -/
theorem ov_chunks (c : Dev nD) (f : S4096x1024.Idx → Elt F .bf16) :
    (((c : Thread nD τ).loc cc0_scratch1) ↦{fullShare} f : sProp 𝕄) = bigSep Finset.univ fun k => ovP c k f := by
  unfold ovP; rw [← pointsTo_biUnion _ _ chunks_disj, ← chunk_cover]
/-- The result is its eight chunks. -/
theorem o_chunks (c : Dev nD) (f : S4096x1024.Idx → Elt F .bf16) :
    (((c : Thread nD τ).loc main_v1) ↦{fullShare} f : sProp 𝕄) = bigSep Finset.univ fun k => oP c k f := by
  unfold oP; rw [← pointsTo_biUnion _ _ chunks_disj, ← chunk_cover]

/-! ## The sums -/

/-- The two halves. -/
theorem cm_halves (c : Dev nD) (q : PosShare TreeShare) (f : S16x4096.Idx → Elt F .f32) :
    (cmP c Finset.univ q f : sProp 𝕄) = iprop(cmP c (halfS 0) q f ∗ cmP c (halfS 1) q f) := by
  unfold cmP
  rw [half_cover, pointsTo_biUnion _ _ (fun t _ t' _ h => half_disj t t' h), bigSep_fin_two]
  rfl
/-- A half's rows. -/
theorem cm_rows (c : Dev nD) (g : Fin 2) (q : PosShare TreeShare) (f : S16x4096.Idx → Elt F .f32) :
    (cmP c (halfS g) q f : sProp 𝕄) = iprop(cmP c (segR 0 g).set q f ∗ bigSep Finset.univ fun k : Fin 15 => cmP c (segR (dist k) g).set q f) := by
  unfold cmP halfS
  rw [pointsTo_biUnion _ _ (fun t _ t' _ h => seg_disj g t t' h), bigSep_first]
/-- The chunks of half of row 0. -/
theorem cm_pieces (c : Dev nD) (g : Fin 2) (q : PosShare TreeShare) (f : S16x4096.Idx → Elt F .f32) :
    (cmP c (segR 0 g).set q f : sProp 𝕄) = bigSep Finset.univ fun j : Fin 4 => cmP c (pieceR (chunkOf g j)).set q f := by
  unfold cmP
  rw [piece_cover, pointsTo_biUnion _ _ (fun t _ t' _ h => piece_disj g t t' h)]
/-- A full share's halves. -/
theorem cm_share (c : Dev nD) (S : Finset S16x4096.Idx) (f : S16x4096.Idx → Elt F .f32) :
    (cmP c S fullShare f : sProp 𝕄) = iprop(cmP c S fullShare.left f ∗ cmP c S fullShare.right f) := by
  unfold cmP
  exact sep_eq (pointsTo_share (PosShare.mem_left_op_right _))
/-- The right half: what the remote copies read, and the rest. -/
theorem cm_toks (c : Dev nD) (S : Finset S16x4096.Idx) (f : S16x4096.Idx → Elt F .f32) :
    (cmP c S fullShare.right f : sProp 𝕄)
      = iprop(cmP c S (Transfers.shareDrop fullShare.right 15) f ∗ bigSep Finset.univ fun k : Fin 15 => cmP c S (tokQ (dist k)) f) := by
  unfold cmP
  exact sep_eq (Transfers.pointsTo_toks fullShare.right 15)

/-- At the start: row 0 by chunks, the other rows by halves. -/
theorem cm_start (c : Dev nD) (f : S16x4096.Idx → Elt F .f32) :
    (cmP c Finset.univ fullShare f : sProp 𝕄) ⊢ iprop((bigSep Finset.univ fun j : Fin 4 => (iprop(∃ f, cmP c (pieceR (chunkOf 0 j)).set fullShare f) : sProp 𝕄))
      ∗ (bigSep Finset.univ fun j : Fin 4 => (iprop(∃ f, cmP c (pieceR (chunkOf 1 j)).set fullShare f) : sProp 𝕄))
      ∗ (bigSep Finset.univ fun k : Fin 15 => (iprop(∃ f, cmP c (segR (dist k) 0).set fullShare f) : sProp 𝕄))
      ∗ bigSep Finset.univ fun k : Fin 15 => (iprop(∃ f, cmP c (segR (dist k) 1).set fullShare f) : sProp 𝕄)) := by
  have e0 : ∀ S : Finset S16x4096.Idx, (cmP c S fullShare f : sProp 𝕄) ⊢ iprop(∃ f, cmP c S fullShare f) := fun S => by
    iintro H; iexists f; iexact H
  have e : ∀ {n : ℕ} (S : Fin n → Finset S16x4096.Idx), (bigSep Finset.univ fun k : Fin n => (cmP c (S k) fullShare f : sProp 𝕄))
      ⊢ bigSep Finset.univ fun k : Fin n => (iprop(∃ f, cmP c (S k) fullShare f) : sProp 𝕄) := fun S =>
    bigSep_mono fun k _ => e0 _
  rw [cm_halves, cm_rows, cm_rows, cm_pieces, cm_pieces]
  iintro ⟨⟨H0, H1⟩, H2, H3⟩
  ihave H0 := (e fun j => (pieceR (chunkOf 0 j)).set) $$ H0
  ihave H2 := (e fun j => (pieceR (chunkOf 1 j)).set) $$ H2
  ihave H1 := (e fun k => (segR (dist k) 0).set) $$ H1
  ihave H3 := (e fun k => (segR (dist k) 1).set) $$ H3
  isplitl [H0]; · iexact H0
  isplitl [H2]; · iexact H2
  isplitl [H1]; · iexact H1
  iexact H3

/-- Half of row 0, its chunks all summed: a share to keep, the rest, and a share for each remote copy. -/
theorem cm_row0 (c : Dev nD) (g : Fin 2) (f : S16x4096.Idx → Elt F .f32) :
    (bigSep Finset.univ fun j : Fin 4 => (cmP c (pieceR (chunkOf g j)).set fullShare f : sProp 𝕄))
      = iprop(cmP c (segR 0 g).set fullShare.left f ∗ cmP c (segR 0 g).set (Transfers.shareDrop fullShare.right 15) f
        ∗ bigSep Finset.univ fun k : Fin 15 => cmP c (segR 0 g).set (tokQ (dist k)) f) := by
  rw [← cm_pieces, cm_share, cm_toks]

/-- A half with all its rows: the kept shares of all sixteen, and the others' rest. -/
theorem cm_half (c : Dev nD) (g : Fin 2) (f : S16x4096.Idx → Elt F .f32) :
    (iprop(cmP c (segR 0 g).set fullShare.left f ∗ bigSep Finset.univ fun k : Fin 15 => cmP c (segR (dist k) g).set fullShare f) : sProp 𝕄)
      = iprop(cmP c (halfS g) fullShare.left f ∗ bigSep Finset.univ fun k : Fin 15 => cmP c (segR (dist k) g).set fullShare.right f) := by
  rw [cm_rows]
  simp only [cm_share]
  rw [bigSep_sep']
  exact sep_eq ⟨sep_assoc.2, sep_assoc.1⟩

/-- At the end: a half, from the kept shares, the others' rest and row 0's. -/
theorem cm_end (c : Dev nD) (g : Fin 2) (f : S16x4096.Idx → Elt F .f32) :
    (iprop((cmP c (halfS g) fullShare.left f ∗ bigSep Finset.univ fun k : Fin 15 => cmP c (segR (dist k) g).set fullShare.right f)
      ∗ cmP c (segR 0 g).set (Transfers.shareDrop fullShare.right 15) f
      ∗ bigSep Finset.univ fun k : Fin 15 => cmP c (segR 0 g).set (tokQ (dist k)) f) : sProp 𝕄) ⊢ cmP c (halfS g) fullShare f := by
  rw [← cm_toks, cm_share c (halfS g), cm_rows c g fullShare.right]
  iintro ⟨⟨H0, H1⟩, H2⟩
  isplitl [H0]; · iexact H0
  isplitl [H2]; · iexact H2
  iexact H1

end Cert.KernelIdeal.Kp

end
-- ==== Proof.Loops.lean ====
/-
  The body of one device: its loops, one after the other, from what the launch gives the device to what the exit needs.
-/
module

public import proofs.«01_k».proof.Proof.Transfers
public import proofs.«01_k».proof.Proof.Split

@[expose] public section

noncomputable section

namespace Cert.KernelIdeal.Kp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → S4096x1024.Idx → Elt F .f32) (G : Dev nD → S1024.Idx → Elt F .f32)

/-- One assertion for each index. -/
abbrev fam {n : ℕ} (Φ : Fin n → sProp 𝕄) : sProp 𝕄 := bigSep Finset.univ Φ

/-! ## One program after another -/

/-- If the first program leads from `A` to `B`, it may be followed by any program that starts from `B`. -/
theorem wp_then (c : Dev nD) {p : P F PUnit} {q : P F PUnit} {A B : sProp 𝕄} {Q : PUnit → sProp 𝕄} (h : A ⊢ WP c p fun _ => B) :
    A ⊢ iprop((B -∗ WP c q Q) -∗ WP c (p >>= fun _ => q) Q) := by
  unfold WP at *
  rw [wp_bind]
  iintro HA Hk
  ihave H := h $$ HA
  iapply (wp_wand_r frame (wpE (defs₀ (F := F)) 𝒱₀ (c : Thread nD τ) none) Set.univ)
  isplitl [H]; · iexact H
  iintro %_ HB
  iapply Hk
  iexact HB

/-- If a program leads from `A` to `B`, it leads from `A` to whatever follows from `B`. -/
theorem wp_last (c : Dev nD) {p : P F PUnit} {A B : sProp 𝕄} {Q : PUnit → sProp 𝕄} (h : A ⊢ WP c p fun _ => B) :
    A ⊢ iprop((B -∗ Q ⟨⟩) -∗ WP c p Q) := by
  unfold WP at *
  iintro HA Hk
  ihave H := h $$ HA
  iapply (wp_wand_r frame (wpE (defs₀ (F := F)) 𝒱₀ (c : Thread nD τ) none) Set.univ)
  isplitl [H]; · iexact H
  iintro %_ HB
  iapply Hk
  iexact HB

/-- A loop whose rounds all use a fact that stays. -/
theorem wp_loop (c : Dev nD) (n : ℕ) (f : Fin n → P F PUnit) (A B : Fin n → sProp 𝕄) (P' : sProp 𝕄) [BI.Persistent P'] (R : ℕ → sProp 𝕄)
    (h : ∀ i, iprop(A i ∗ P' ∗ R i.val) ⊢ WP c (f i) fun _ => iprop(B i ∗ R (i.val + 1))) :
    iprop(fam A ∗ P' ∗ R 0) ⊢ WP c (rep n f) fun _ => iprop(fam B ∗ R n) := by
  have h' := wp_rep c n f A B (fun k => iprop(P' ∗ R k)) fun i => by
    iintro ⟨HA, #HP, HR⟩
    ihave H := (h i) $$ [HA HR]
    · isplitl [HA]; · iexact HA
      isplitr; · iexact HP
      iexact HR
    unfold WP
    iapply (wp_wand_r frame (wpE (defs₀ (F := F)) 𝒱₀ (c : Thread nD τ) none) Set.univ)
    isplitl [H]; · iexact H
    iintro %_ ⟨HB, HR⟩
    isplitl [HB]; · iexact HB
    isplitr; · iexact HP
    iexact HR
  iintro H
  ihave H := h' $$ H
  unfold WP
  iapply (wp_wand_r frame (wpE (defs₀ (F := F)) 𝒱₀ (c : Thread nD τ) none) Set.univ)
  isplitl [H]; · iexact H
  iintro %_ ⟨HB, -, HR⟩
  isplitl [HB]; · iexact HB
  iexact HR

/-! ## The loops -/

/-- The loop of the fifteen credits gives up rows 1 to 15 of the sums and pays the fifteen debts. -/
theorem loop_cr (c : Dev nD) :
    iprop((fam (fun k : Fin 15 => iprop(∃ f, cmP c (segR (dist k) 0).set fullShare f)) ∗ fam (fun k : Fin 15 => iprop(∃ f, cmP c (segR (dist k) 1).set fullShare f))
        ∗ fam fun k : Fin 15 => tok (bwd c (dist k)) (.reg (crS (dist k)))) ∗ Rec X G ∗ Own c (oweCr c 0))
      ⊢ WP c (rep 15 fun k => semSignalWord (credDev c k) (crS (dist k)) 1#32) fun _ => iprop(fam (n := 15) (fun _ => iprop(emp)) ∗ Own c (oweCr c 15)) := by
  have h := wp_loop c 15 (fun k => semSignalWord (credDev c k) (crS (dist k)) 1#32) _ (fun _ => iprop(emp)) (Rec X G) (fun k => Own c (oweCr c k)) fun k => by
    refine (step_cr X G c k).trans (wp_mono frame (wpE (defs₀ (F := F)) 𝒱₀ (c : Thread nD τ) none) Set.univ fun _ => ?_)
    iintro H
    isplitr; · iempintro
    iexact H
  simp only [fam, bigSep_sep'] at h ⊢
  exact h

/-- The loop that starts the eight loads gives up the chunks of x and of its fast copy, and gains the right to wait for each load. -/
theorem loop_load (c : Dev nD) :
    iprop((fam (fun k => xP c k (X c)) ∗ fam (fun k => iprop(∃ f, xvP c k f)) ∗ fam fun k => tok c (.dma (ldS k))) ∗ Rec X G ∗ emp)
      ⊢ WP c (rep 8 fun k => startLoad k) fun _ => iprop(fam (fun k => crd c (.dma (ldS k)) Nld) ∗ emp) := by
  have h := wp_loop c 8 (fun k => startLoad k) _ (fun k => crd c (.dma (ldS k)) Nld) (Rec X G) (fun _ => iprop(emp)) fun k => by
    have e := (step_load X G c k).trans (wp_mono frame (wpE (defs₀ (F := F)) 𝒱₀ (c : Thread nD τ) none) Set.univ fun _ =>
      (sep_emp (PROP := sProp 𝕄)).2)
    refine BIBase.Entails.trans ?_ e
    exact sep_mono_right (sep_emp (PROP := sProp 𝕄)).1
  simp only [fam, bigSep_sep'] at h ⊢
  exact h

/-- The loop over four chunks waits for each load, has the chunk in fast memory, and leaves its sums of squares in row 0. -/
theorem loop_sum (c : Dev nD) (g : Fin 2) (O : CellTallies nD τ sig Unit) (hO : Above 0 O) :
    iprop(((fam (fun j : Fin 4 => crd c (.dma (ldS (chunkOf g j))) Nld) ∗ fam fun j : Fin 4 => posn c (.dma (ldS (chunkOf g j))) 0)
        ∗ fam fun j : Fin 4 => iprop(∃ f, cmP c (pieceR (chunkOf g j)).set fullShare f)) ∗ Rec X G ∗ Own c O)
      ⊢ WP c (rep 4 fun j => sumChunk (chunkOf g j)) fun _ => iprop((fam (fun j : Fin 4 => xvP c (chunkOf g j) (X c))
        ∗ fam (fun j : Fin 4 => xP c (chunkOf g j) (X c)) ∗ fam (fun j : Fin 4 => posn c (.dma (ldS (chunkOf g j))) 1)
        ∗ fam fun j : Fin 4 => cmP c (pieceR (chunkOf g j)).set fullShare (commV X c)) ∗ Own c O) := by
  have h := wp_loop c 4 (fun j => sumChunk (chunkOf g j)) _ _ (Rec X G) (fun _ => Own c O) fun j => step_sum X G c (chunkOf g j) O hO
  simp only [fam, bigSep_sep'] at h ⊢
  exact h

/-- The loop that sends half 0 takes each peer's row with its credit, starts the fifteen copies, and pays the fifteen debts of half 0. -/
theorem loop_send0 (c : Dev nD) :
    iprop(((fam (fun k : Fin 15 => crd c (.reg (crS (dist k))) 1) ∗ fam fun k : Fin 15 => posn c (.reg (crS (dist k))) 0)
        ∗ fam (fun k : Fin 15 => cmP c (segR 0 0).set (tokQ (dist k)) (commV X c))
        ∗ fam (fun k : Fin 15 => tok c (.dma (sdS (dist k) 0))) ∗ fam fun k : Fin 15 => tok (fwd c (dist k)) (.dma (rvS (dist k) 0))) ∗ Rec X G ∗ Own c (oweS0 c 0))
      ⊢ WP c (rep 15 fun k => semWaitWord (crS (dist k)) 1#32 >>= fun _ => sendSeg 0 k (sendDev0 c k)) fun _ =>
        iprop((fam (fun k : Fin 15 => posn c (.reg (crS (dist k))) 1) ∗ fam (fun k : Fin 15 => rowP (F := F) c (dist k) 1)
          ∗ fam fun k : Fin 15 => crd c (.dma (sdS (dist k) 0)) Nx) ∗ Own c (oweS0 c 15)) := by
  have h := wp_loop c 15 (fun k => semWaitWord (crS (dist k)) 1#32 >>= fun _ => sendSeg 0 k (sendDev0 c k)) _ _ (Rec X G) (fun k => Own c (oweS0 c k))
    fun k => step_send0 X G c k
  simp only [fam, bigSep_sep'] at h ⊢
  exact h

/-- The loop that sends half 1 starts the fifteen copies into the peers' rows and pays the fifteen debts of half 1. -/
theorem loop_send1 (c : Dev nD) :
    iprop((fam (fun k : Fin 15 => cmP c (segR 0 1).set (tokQ (dist k)) (commV X c)) ∗ fam (fun k : Fin 15 => rowP (F := F) c (dist k) 1)
        ∗ fam (fun k : Fin 15 => tok c (.dma (sdS (dist k) 1))) ∗ fam fun k : Fin 15 => tok (fwd c (dist k)) (.dma (rvS (dist k) 1))) ∗ Rec X G ∗ Own c (oweS1 c 0))
      ⊢ WP c (rep 15 fun k => sendSeg 1 k (sendDev1 c k)) fun _ =>
        iprop(fam (fun k : Fin 15 => crd c (.dma (sdS (dist k) 1)) Nx) ∗ Own c (oweS1 c 15)) := by
  have h := wp_loop c 15 (fun k => sendSeg 1 k (sendDev1 c k)) _ _ (Rec X G) (fun k => Own c (oweS1 c k)) fun k => step_send1 X G c k
  simp only [fam, bigSep_sep'] at h ⊢
  exact h

/-- The loop that waits for the fifteen arrivals of a half leaves the peers' sums of that half in rows 1 to 15. -/
theorem loop_recv (c : Dev nD) (g : Fin 2) :
    iprop((fam (fun k : Fin 15 => crd c (.dma (rvS (dist k) g)) Nx) ∗ fam fun k : Fin 15 => posn c (.dma (rvS (dist k) g)) 0) ∗ Rec X G ∗ Own c 0)
      ⊢ WP c (rep 15 fun k => recvSeg g k) fun _ => iprop((fam (fun k : Fin 15 => posn c (.dma (rvS (dist k) g)) 1)
        ∗ fam fun k : Fin 15 => cmP c (segR (dist k) g).set fullShare (commV X c)) ∗ Own c 0) := by
  have h := wp_loop c 15 (fun k => recvSeg g k) _ _ (Rec X G) (fun _ => Own c 0) fun k => step_recv X G c g k
  simp only [fam, bigSep_sep'] at h ⊢
  exact h

/-- The loop that waits for the fifteen departures of a half gets back the shares of row 0 that the copies read. -/
theorem loop_sent (c : Dev nD) (g : Fin 2) :
    iprop((fam (fun k : Fin 15 => crd c (.dma (sdS (dist k) g)) Nx) ∗ fam fun k : Fin 15 => posn c (.dma (sdS (dist k) g)) 0) ∗ Rec X G ∗ Own c 0)
      ⊢ WP c (rep 15 fun k => sentSeg g k) fun _ => iprop((fam (fun k : Fin 15 => posn c (.dma (sdS (dist k) g)) 1)
        ∗ fam fun k : Fin 15 => cmP c (segR 0 g).set (tokQ (dist k)) (commV X c)) ∗ Own c 0) := by
  have h := wp_loop c 15 (fun k => sentSeg g k) _ _ (Rec X G) (fun _ => Own c 0) fun k => step_sent X G c g k
  simp only [fam, bigSep_sep'] at h ⊢
  exact h

/-- The loop that waits for the eight stores leaves the result written, chunk by chunk. -/
theorem loop_stored (c : Dev nD) :
    iprop((fam (fun k => crd c (.dma (stS k)) Nst) ∗ fam fun k => posn c (.dma (stS k)) 0) ∗ Rec X G ∗ Own c 0)
      ⊢ WP c (rep 8 fun k => storedChunk k) fun _ => iprop((fam (fun k => posn c (.dma (stS k)) 1)
        ∗ fam (fun k => oP c k (outV X G c)) ∗ fam fun k => ovP c k (outV X G c)) ∗ Own c 0) := by
  have h := wp_loop c 8 (fun k => storedChunk k) _ _ (Rec X G) (fun _ => Own c 0) fun k => step_stored X G c k
  simp only [fam, bigSep_sep'] at h ⊢
  exact h

/-- The loop over four chunks computes the result from the sums of all devices and starts the store of each chunk. -/
theorem loop_out (c : Dev nD) (g : Fin 2) :
    iprop((fam (fun j : Fin 4 => xvP c (chunkOf g j) (X c)) ∗ fam (fun j : Fin 4 => iprop(∃ f, ovP c (chunkOf g j) f))
        ∗ fam (fun j : Fin 4 => iprop(∃ f, oP c (chunkOf g j) f)) ∗ fam fun j : Fin 4 => tok c (.dma (stS (chunkOf g j))))
        ∗ Rec X G ∗ cmP c (halfS g) fullShare.left (commV X c) ∗ gP G c)
      ⊢ WP c (rep 4 fun j => outChunk (chunkOf g j)) fun _ => iprop((fam (fun j : Fin 4 => xvP c (chunkOf g j) (X c))
        ∗ fam fun j : Fin 4 => crd c (.dma (stS (chunkOf g j))) Nst) ∗ cmP c (halfS g) fullShare.left (commV X c) ∗ gP G c) := by
  have h := wp_loop c 4 (fun j => outChunk (chunkOf g j)) _ _ (Rec X G) (fun _ => iprop(cmP c (halfS g) fullShare.left (commV X c) ∗ gP G c))
    fun j => step_out X G c g j
  simp only [fam, bigSep_sep'] at h ⊢
  exact h

end Cert.KernelIdeal.Kp

end
-- ==== Proof.Body.lean ====
/-
  The whole body of one device, from what the launch gives the device to what the exit needs.
-/
module

public import proofs.«01_k».proof.Proof.Loops

@[expose] public section

noncomputable section

namespace Cert.KernelIdeal.Kp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → S4096x1024.Idx → Elt F .f32) (G : Dev nD → S1024.Idx → Elt F .f32)

/-- The payments device `c` makes: to its own barrier, to the devices before it (credits), to itself (its own copies'
    ends, its remote copies' departures), to the devices after it (arrivals). -/
def toks (c : Dev nD) : sProp 𝕄 :=
  iprop(tok c (.reg barS) ∗ fam (fun k : Fin 15 => tok (bwd c (dist k)) (.reg (crS (dist k)))) ∗ fam (fun k => tok c (.dma (ldS k)))
    ∗ fam (fun k => tok c (.dma (stS k))) ∗ fam (fun k : Fin 15 => tok c (.dma (sdS (dist k) 0))) ∗ fam (fun k : Fin 15 => tok c (.dma (sdS (dist k) 1)))
    ∗ fam (fun k : Fin 15 => tok (fwd c (dist k)) (.dma (rvS (dist k) 0))) ∗ fam fun k : Fin 15 => tok (fwd c (dist k)) (.dma (rvS (dist k) 1)))
/-- The credits it holds at launch: for what the others pay to it. -/
def crds (c : Dev nD) : sProp 𝕄 :=
  iprop(crd c (.reg barS) 1 ∗ fam (fun k : Fin 15 => crd c (.reg (crS (dist k))) 1) ∗ fam (fun k : Fin 15 => crd c (.dma (rvS (dist k) 0)) Nx)
    ∗ fam fun k : Fin 15 => crd c (.dma (rvS (dist k) 1)) Nx)
/-- Its place at its own used cells. -/
def poss (c : Dev nD) (n : ℕ) : sProp 𝕄 :=
  iprop(posn c (.reg barS) n ∗ fam (fun k : Fin 15 => posn c (.reg (crS (dist k))) n) ∗ fam (fun k => posn c (.dma (ldS k)) n)
    ∗ fam (fun k => posn c (.dma (stS k)) n) ∗ fam (fun k : Fin 15 => posn c (.dma (sdS (dist k) 0)) n) ∗ fam (fun k : Fin 15 => posn c (.dma (sdS (dist k) 1)) n)
    ∗ fam (fun k : Fin 15 => posn c (.dma (rvS (dist k) 0)) n) ∗ fam fun k : Fin 15 => posn c (.dma (rvS (dist k) 1)) n)
/-- The three buffers in fast memory, whatever they hold. -/
def fast (c : Dev nD) : sProp 𝕄 :=
  iprop((∃ f : S4096x1024.Idx → Elt F .f32, ((c : Thread nD τ).loc cc0_scratch0) ↦{fullShare} f) ∗ (∃ f : S4096x1024.Idx → Elt F .bf16, ((c : Thread nD τ).loc cc0_scratch1) ↦{fullShare} f)
    ∗ ∃ f : S16x4096.Idx → Elt F .f32, ((c : Thread nD τ).loc cc0_scratch2) ↦{fullShare} f)
/-- x, and the result whatever it holds. -/
def arr0 (c : Dev nD) : sProp 𝕄 :=
  iprop((((c : Thread nD τ).loc main_arg0) ↦{fullShare} (X c)) ∗ ∃ f : S4096x1024.Idx → Elt F .bf16, ((c : Thread nD τ).loc main_v1) ↦{fullShare} f)
/-- x, and the result computed. -/
def arr1 (c : Dev nD) : sProp 𝕄 :=
  iprop((((c : Thread nD τ).loc main_arg0) ↦{fullShare} (X c)) ∗ (((c : Thread nD τ).loc main_v1) ↦{fullShare} (outV X G c)))

/-- The fast copy of x, whatever it holds, is its eight chunks, each whatever it holds. -/
theorem xv_any (c : Dev nD) :
    (iprop(∃ f : S4096x1024.Idx → Elt F .f32, ((c : Thread nD τ).loc cc0_scratch0) ↦{fullShare} f) : sProp 𝕄) ⊢ fam fun k => iprop(∃ f, xvP c k f) := by
  have e : ∀ (f : S4096x1024.Idx → Elt F .f32) (k : Fin 8), (xvP c k f : sProp 𝕄) ⊢ iprop(∃ f, xvP c k f) := fun f k => by iintro H; iexists f; iexact H
  have e' : ∀ f : S4096x1024.Idx → Elt F .f32, (fam fun k => xvP c k f : sProp 𝕄) ⊢ fam fun k => iprop(∃ f, xvP c k f) := fun f => bigSep_mono fun k _ => e f k
  iintro ⟨%f, H⟩
  ihave H := (Entails.of_eq (xv_chunks c f)) $$ H
  ihave H := (e' f) $$ H
  iexact H
/-- The fast copy of the result, whatever it holds, is its eight chunks, each whatever it holds. -/
theorem ov_any (c : Dev nD) :
    (iprop(∃ f : S4096x1024.Idx → Elt F .bf16, ((c : Thread nD τ).loc cc0_scratch1) ↦{fullShare} f) : sProp 𝕄) ⊢ fam fun k => iprop(∃ f, ovP c k f) := by
  have e : ∀ (f : S4096x1024.Idx → Elt F .bf16) (k : Fin 8), (ovP c k f : sProp 𝕄) ⊢ iprop(∃ f, ovP c k f) := fun f k => by iintro H; iexists f; iexact H
  have e' : ∀ f : S4096x1024.Idx → Elt F .bf16, (fam fun k => ovP c k f : sProp 𝕄) ⊢ fam fun k => iprop(∃ f, ovP c k f) := fun f => bigSep_mono fun k _ => e f k
  iintro ⟨%f, H⟩
  ihave H := (Entails.of_eq (ov_chunks c f)) $$ H
  ihave H := (e' f) $$ H
  iexact H
/-- The result, whatever it holds, is its eight chunks, each whatever it holds. -/
theorem o_any (c : Dev nD) :
    (iprop(∃ f : S4096x1024.Idx → Elt F .bf16, ((c : Thread nD τ).loc main_v1) ↦{fullShare} f) : sProp 𝕄) ⊢ fam fun k => iprop(∃ f, oP c k f) := by
  have e : ∀ (f : S4096x1024.Idx → Elt F .bf16) (k : Fin 8), (oP c k f : sProp 𝕄) ⊢ iprop(∃ f, oP c k f) := fun f k => by iintro H; iexists f; iexact H
  have e' : ∀ f : S4096x1024.Idx → Elt F .bf16, (fam fun k => oP c k f : sProp 𝕄) ⊢ fam fun k => iprop(∃ f, oP c k f) := fun f => bigSep_mono fun k _ => e f k
  iintro ⟨%f, H⟩
  ihave H := (Entails.of_eq (o_chunks c f)) $$ H
  ihave H := (e' f) $$ H
  iexact H

/-- The body of device `c`: every payment made and received, the result computed, nothing owed. -/
theorem body_tidy (c : Dev nD) (Q : PUnit → sProp 𝕄) :
    iprop((Rec X G ∗ Own c (O₀ c) ∗ toks c ∗ crds c ∗ poss c 0 ∗ arr0 X c ∗ fast c ∗ gP G c)
        ∗ ((Own c 0 ∗ poss c 1 ∗ arr1 X G c ∗ fast c ∗ gP G c) -∗ Q ⟨⟩))
      ⊢ WP c tidy Q := by
  unfold tidy
  have e0 : ∀ (k : Dev nD → P F PUnit), WP c (Prog.lift .deviceId >>= k) Q = WP c (k c) Q := fun k => by
    unfold WP; simp only [Prog.lift, Prog.bind_op, Prog.bind_ret, wp_deviceId]
  rw [e0]
  unfold toks crds poss arr0 arr1 fast
  iintro ⟨⟨#HR, HO, ⟨Htb, Htcr, Htld, Htst, Hts0, Hts1, Htr0, Htr1⟩, ⟨Hcb, Hccr, Hcr0, Hcr1⟩, ⟨Hpb, Hpcr, Hpld, Hpst, Hps0, Hps1, Hpr0, Hpr1⟩,
    ⟨Hx, Ho⟩, ⟨Hxv, Hov, ⟨%fc, Hcm⟩⟩, Hg⟩, Hk⟩
  -- the barrier
  iapply (wp_then c (step_bar X G c)) $$ [HO Htb]
  · isplitl [Htb]; · iexact Htb
    isplitr; · iexact HR
    iexact HO
  iintro HO
  iapply (wp_then c (step_barWait X G c)) $$ [HO Hcb Hpb]
  · isplitl [Hcb Hpb]
    · isplitl [Hcb]; · iexact Hcb
      iexact Hpb
    isplitr; · iexact HR
    iexact HO
  iintro ⟨Hpb, HO⟩
  -- the credits
  ihave ⟨Hp0, Hp1, Hw0, Hw1⟩ := (cm_start c fc) $$ [Hcm]
  · unfold cmP; iexact Hcm
  iapply (wp_then c (loop_cr X G c)) $$ [HO Hw0 Hw1 Htcr]
  · isplitl [Hw0 Hw1 Htcr]
    · isplitl [Hw0]; · iexact Hw0
      isplitl [Hw1]; · iexact Hw1
      iexact Htcr
    isplitr; · iexact HR
    iexact HO
  rw [oweCr_end]
  iintro ⟨-, HO⟩
  -- the copies of x
  ihave Hx := (Entails.of_eq (x_chunks c (X c))) $$ Hx
  ihave Hxv := (xv_any c) $$ Hxv
  iapply (wp_then c (loop_load X G c)) $$ [Hx Hxv Htld]
  · isplitl [Hx Hxv Htld]
    · isplitl [Hx]; · iexact Hx
      isplitl [Hxv]; · iexact Hxv
      iexact Htld
    isplitr; · iexact HR
    iempintro
  iintro ⟨Hcld, -⟩
  -- the sums of half 0
  ihave ⟨Hcld, Hcld1⟩ := (Entails.of_eq (bigSep_chunks fun k => crd c (.dma (ldS k)) Nld)) $$ Hcld
  ihave ⟨Hpld, Hpld1⟩ := (Entails.of_eq (bigSep_chunks fun k => posn c (.dma (ldS k)) 0)) $$ Hpld
  iapply (wp_then c (loop_sum X G c 0 (oweS0 c 0) (above_mono (above_oweS0 c 0) (Nat.zero_le _)))) $$ [HO Hcld Hpld Hp0]
  · isplitr [HO]
    · isplitr [Hp0]
      · isplitl [Hcld]; · iexact Hcld
        iexact Hpld
      iexact Hp0
    isplitr; · iexact HR
    iexact HO
  iintro ⟨⟨Hxv0, Hx0, Hpld, Hp0⟩, HO⟩
  -- the remote copies of half 0
  ihave ⟨Hl0, Hd0, Hq0⟩ := (Entails.of_eq (cm_row0 c 0 (commV X c))) $$ Hp0
  iapply (wp_then c (loop_send0 X G c)) $$ [HO Hccr Hpcr Hq0 Hts0 Htr0]
  · isplitr [HO]
    · isplitl [Hccr Hpcr]
      · isplitl [Hccr]; · iexact Hccr
        iexact Hpcr
      isplitl [Hq0]; · iexact Hq0
      isplitl [Hts0]; · iexact Hts0
      iexact Htr0
    isplitr; · iexact HR
    iexact HO
  rw [oweS0_end]
  iintro ⟨⟨Hpcr, Hw1, Hcs0⟩, HO⟩
  -- the sums of half 1
  iapply (wp_then c (loop_sum X G c 1 (oweS1 c 0) (above_mono (above_oweS1 c 0) (Nat.zero_le _)))) $$ [HO Hcld1 Hpld1 Hp1]
  · isplitr [HO]
    · isplitr [Hp1]
      · isplitl [Hcld1]; · iexact Hcld1
        iexact Hpld1
      iexact Hp1
    isplitr; · iexact HR
    iexact HO
  iintro ⟨⟨Hxv1, Hx1, Hpld1, Hp1⟩, HO⟩
  -- the remote copies of half 1
  ihave ⟨Hl1, Hd1, Hq1⟩ := (Entails.of_eq (cm_row0 c 1 (commV X c))) $$ Hp1
  iapply (wp_then c (loop_send1 X G c)) $$ [HO Hq1 Hw1 Hts1 Htr1]
  · isplitr [HO]
    · isplitl [Hq1]; · iexact Hq1
      isplitl [Hw1]; · iexact Hw1
      isplitl [Hts1]; · iexact Hts1
      iexact Htr1
    isplitr; · iexact HR
    iexact HO
  rw [oweS1_end]
  iintro ⟨Hcs1, HO⟩
  -- the arrivals of half 0, and its result
  iapply (wp_then c (loop_recv X G c 0)) $$ [HO Hcr0 Hpr0]
  · isplitr [HO]
    · isplitl [Hcr0]; · iexact Hcr0
      iexact Hpr0
    isplitr; · iexact HR
    iexact HO
  iintro ⟨⟨Hpr0, Hv0⟩, HO⟩
  ihave ⟨Hh0, Hr0⟩ := (Entails.of_eq (cm_half c 0 (commV X c))) $$ [Hl0 Hv0]
  · isplitl [Hl0]; · iexact Hl0
    iexact Hv0
  ihave Hov := (ov_any c) $$ Hov
  ihave Ho := (o_any c) $$ Ho
  ihave ⟨Hov0, Hov1⟩ := (Entails.of_eq (bigSep_chunks fun k => iprop(∃ f, ovP c k f))) $$ Hov
  ihave ⟨Ho0, Ho1⟩ := (Entails.of_eq (bigSep_chunks fun k => iprop(∃ f, oP c k f))) $$ Ho
  ihave ⟨Htst0, Htst1⟩ := (Entails.of_eq (bigSep_chunks fun k => tok c (.dma (stS k)))) $$ Htst
  iapply (wp_then c (loop_out X G c 0)) $$ [Hxv0 Hov0 Ho0 Htst0 Hh0 Hg]
  · isplitr [Hh0 Hg]
    · isplitl [Hxv0]; · iexact Hxv0
      isplitl [Hov0]; · iexact Hov0
      isplitl [Ho0]; · iexact Ho0
      iexact Htst0
    isplitr; · iexact HR
    isplitl [Hh0]; · iexact Hh0
    iexact Hg
  iintro ⟨⟨Hxv0, Hcst0⟩, Hh0, Hg⟩
  -- the arrivals of half 1, and its result
  iapply (wp_then c (loop_recv X G c 1)) $$ [HO Hcr1 Hpr1]
  · isplitr [HO]
    · isplitl [Hcr1]; · iexact Hcr1
      iexact Hpr1
    isplitr; · iexact HR
    iexact HO
  iintro ⟨⟨Hpr1, Hv1⟩, HO⟩
  ihave ⟨Hh1, Hr1⟩ := (Entails.of_eq (cm_half c 1 (commV X c))) $$ [Hl1 Hv1]
  · isplitl [Hl1]; · iexact Hl1
    iexact Hv1
  iapply (wp_then c (loop_out X G c 1)) $$ [Hxv1 Hov1 Ho1 Htst1 Hh1 Hg]
  · isplitr [Hh1 Hg]
    · isplitl [Hxv1]; · iexact Hxv1
      isplitl [Hov1]; · iexact Hov1
      isplitl [Ho1]; · iexact Ho1
      iexact Htst1
    isplitr; · iexact HR
    isplitl [Hh1]; · iexact Hh1
    iexact Hg
  iintro ⟨⟨Hxv1, Hcst1⟩, Hh1, Hg⟩
  -- the departures
  iapply (wp_then c (loop_sent X G c 0)) $$ [HO Hcs0 Hps0]
  · isplitr [HO]
    · isplitl [Hcs0]; · iexact Hcs0
      iexact Hps0
    isplitr; · iexact HR
    iexact HO
  iintro ⟨⟨Hps0, Hq0⟩, HO⟩
  iapply (wp_then c (loop_sent X G c 1)) $$ [HO Hcs1 Hps1]
  · isplitr [HO]
    · isplitl [Hcs1]; · iexact Hcs1
      iexact Hps1
    isplitr; · iexact HR
    iexact HO
  iintro ⟨⟨Hps1, Hq1⟩, HO⟩
  -- the copies of the result
  ihave Hcst := (Entails.of_eq (bigSep_chunks fun k => crd c (.dma (stS k)) Nst).symm) $$ [Hcst0 Hcst1]
  · isplitl [Hcst0]; · iexact Hcst0
    iexact Hcst1
  iapply (wp_last c (loop_stored X G c)) $$ [HO Hcst Hpst]
  · isplitr [HO]
    · isplitl [Hcst]; · iexact Hcst
      iexact Hpst
    isplitr; · iexact HR
    iexact HO
  iintro ⟨⟨Hpst, Ho, Hov⟩, HO⟩
  -- the windows put together
  ihave Hx := (Entails.of_eq ((bigSep_chunks fun k => xP c k (X c)).symm.trans (x_chunks c (X c)).symm)) $$ [Hx0 Hx1]
  · isplitl [Hx0]; · iexact Hx0
    iexact Hx1
  ihave Hxv := (Entails.of_eq ((bigSep_chunks fun k => xvP c k (X c)).symm.trans (xv_chunks c (X c)).symm)) $$ [Hxv0 Hxv1]
  · isplitl [Hxv0]; · iexact Hxv0
    iexact Hxv1
  ihave Hpld := (Entails.of_eq (bigSep_chunks fun k => posn c (.dma (ldS k)) 1).symm) $$ [Hpld Hpld1]
  · isplitl [Hpld]; · iexact Hpld
    iexact Hpld1
  ihave Ho := (Entails.of_eq (o_chunks c (outV X G c)).symm) $$ Ho
  ihave Hov := (Entails.of_eq (ov_chunks c (outV X G c)).symm) $$ Hov
  ihave H0 := (cm_end c 0 (commV X c)) $$ [Hh0 Hr0 Hd0 Hq0]
  · isplitl [Hh0 Hr0]
    · isplitl [Hh0]; · iexact Hh0
      iexact Hr0
    isplitl [Hd0]; · iexact Hd0
    iexact Hq0
  ihave H1 := (cm_end c 1 (commV X c)) $$ [Hh1 Hr1 Hd1 Hq1]
  · isplitl [Hh1 Hr1]
    · isplitl [Hh1]; · iexact Hh1
      iexact Hr1
    isplitl [Hd1]; · iexact Hd1
    iexact Hq1
  ihave Hcm := (Entails.of_eq (cm_halves c fullShare (commV X c)).symm) $$ [H0 H1]
  · isplitl [H0]; · iexact H0
    iexact H1
  iapply Hk
  isplitl [HO]; · iexact HO
  isplitl [Hpb Hpcr Hpld Hpst Hps0 Hps1 Hpr0 Hpr1]
  · isplitl [Hpb]; · iexact Hpb
    isplitl [Hpcr]; · iexact Hpcr
    isplitl [Hpld]; · iexact Hpld
    isplitl [Hpst]; · iexact Hpst
    isplitl [Hps0]; · iexact Hps0
    isplitl [Hps1]; · iexact Hps1
    isplitl [Hpr0]; · iexact Hpr0
    iexact Hpr1
  isplitl [Hx Ho]
  · isplitl [Hx]; · iexact Hx
    iexact Ho
  isplitl [Hxv Hov Hcm]
  · isplitl [Hxv]; · iexists _; iexact Hxv
    isplitl [Hov]; · iexists _; iexact Hov
    iexists _; unfold cmP; iexact Hcm
  iexact Hg

end Cert.KernelIdeal.Kp

end
-- ==== Proof.Cells.lean ====
/-
  The semaphores of one device as families, the payments dealt to the devices that make them, and the credits that the
  launch grants.
-/
module

public import proofs.«01_k».proof.Proof.Body

@[expose] public section

noncomputable section

namespace Cert.KernelIdeal.Kp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type}

local notation "𝕄" => MT nD τ sig Unit (Elt F) ℕ UU ℕ

/-! ## Families over the semaphores of a device -/

/-- Over the used semaphores; -/
def usedF (Φ : SemLoc sig → sProp 𝕄) : sProp 𝕄 :=
  iprop(Φ (.reg barS) ∗ fam (fun k : Fin 15 => Φ (.reg (crS (dist k)))) ∗ fam (fun k => Φ (.dma (ldS k)))
    ∗ fam (fun k => Φ (.dma (stS k))) ∗ fam (fun k : Fin 15 => Φ (.dma (sdS (dist k) 0))) ∗ fam (fun k : Fin 15 => Φ (.dma (sdS (dist k) 1)))
    ∗ fam (fun k : Fin 15 => Φ (.dma (rvS (dist k) 0))) ∗ fam fun k : Fin 15 => Φ (.dma (rvS (dist k) 1)))
/-- over those of distance 0, which nobody uses. -/
def idleF (Φ : SemLoc sig → sProp 𝕄) : sProp 𝕄 :=
  iprop(Φ (.reg (crS 0)) ∗ Φ (.dma (sdS 0 0)) ∗ Φ (.dma (sdS 0 1)) ∗ Φ (.dma (rvS 0 0)) ∗ Φ (.dma (rvS 0 1)))

/-- The regular semaphores: the credits and the barrier. -/
theorem reg_split (Φ : SemLoc sig → sProp 𝕄) :
    (bigSep Finset.univ fun i : Fin 17 => Φ (.reg i) : sProp 𝕄) = iprop((bigSep Finset.univ fun i : Fin 16 => Φ (.reg (crS i))) ∗ Φ (.reg barS)) := by
  rw [bigSep_univ_equiv (finSumFinEquiv : Fin 16 ⊕ Fin 1 ≃ Fin 17), bigSep_univ_sum]
  have e : ∀ Ψ : Fin 1 → sProp 𝕄, bigSep Finset.univ Ψ = Ψ 0 := fun Ψ => by rw [Finset.univ_unique, bigSep_singleton]; rfl
  rw [e]
  have e1 : ∀ i : Fin 16, (finSumFinEquiv (Sum.inl i : Fin 16 ⊕ Fin 1) : Fin 17) = crS i := by decide
  have e2 : (finSumFinEquiv (Sum.inr 0 : Fin 16 ⊕ Fin 1) : Fin 17) = barS := by decide
  simp only [e1, e2]
  rfl

/-- A pair of sixteen-fold arrays. -/
theorem pair_split (f : Fin 16 → Fin 2 → DmaSem sig) (Φ : SemLoc sig → sProp 𝕄) :
    (bigSep Finset.univ fun p : Fin 2 × Fin 16 => Φ (.dma (f p.2 p.1)) : sProp 𝕄)
      = iprop((Φ (.dma (f 0 0)) ∗ fam fun k : Fin 15 => Φ (.dma (f (dist k) 0))) ∗ (Φ (.dma (f 0 1)) ∗ fam fun k : Fin 15 => Φ (.dma (f (dist k) 1)))) := by
  rw [bigSep_univ_prod, bigSep_fin_two, bigSep_first, bigSep_first]
  rfl

/-- The semaphores of copies. -/
theorem dma_split (Φ : SemLoc sig → sProp 𝕄) :
    (bigSep Finset.univ fun i : Fin 80 => Φ (semOf (.inl i)) : sProp 𝕄)
      = iprop(((bigSep Finset.univ fun k => Φ (.dma (ldS k))) ∗ (bigSep Finset.univ fun k => Φ (.dma (stS k))))
        ∗ ((bigSep Finset.univ fun p : Fin 2 × Fin 16 => Φ (.dma (sdS p.2 p.1))) ∗ (bigSep Finset.univ fun p : Fin 2 × Fin 16 => Φ (.dma (rvS p.2 p.1))))) := by
  rw [bigSep_univ_equiv (finSumFinEquiv : Fin 16 ⊕ Fin 64 ≃ Fin 80), bigSep_univ_sum,
    bigSep_univ_equiv (finSumFinEquiv : Fin 8 ⊕ Fin 8 ≃ Fin 16), bigSep_univ_sum,
    bigSep_univ_equiv (finSumFinEquiv : Fin 32 ⊕ Fin 32 ≃ Fin 64), bigSep_univ_sum,
    bigSep_univ_equiv (finProdFinEquiv : Fin 2 × Fin 16 ≃ Fin 32), bigSep_univ_equiv (finProdFinEquiv : Fin 2 × Fin 16 ≃ Fin 32)]
  have e1 : ∀ k : Fin 8, (semOf (.inl (finSumFinEquiv (.inl (finSumFinEquiv (.inl k : Fin 8 ⊕ Fin 8) : Fin 16) : Fin 16 ⊕ Fin 64) : Fin 80))) = .dma (ldS k) :=
    fun k => congrArg SemLoc.dma (Fin.ext rfl)
  have e2 : ∀ k : Fin 8, (semOf (.inl (finSumFinEquiv (.inl (finSumFinEquiv (.inr k : Fin 8 ⊕ Fin 8) : Fin 16) : Fin 16 ⊕ Fin 64) : Fin 80))) = .dma (stS k) :=
    fun k => congrArg SemLoc.dma (Fin.ext (by show 1 + (8 + k.val) = 9 + k.val; omega))
  have e3 : ∀ p : Fin 2 × Fin 16, (semOf (.inl (finSumFinEquiv (.inr (finSumFinEquiv (.inl (finProdFinEquiv p : Fin 32) : Fin 32 ⊕ Fin 32) : Fin 64) : Fin 16 ⊕ Fin 64) : Fin 80))) = .dma (sdS p.2 p.1) :=
    fun p => congrArg SemLoc.dma (Fin.ext (by show 1 + (16 + (p.2.val + 16 * p.1.val)) = 17 + (16 * p.1.val + p.2.val); omega))
  have e4 : ∀ p : Fin 2 × Fin 16, (semOf (.inl (finSumFinEquiv (.inr (finSumFinEquiv (.inr (finProdFinEquiv p : Fin 32) : Fin 32 ⊕ Fin 32) : Fin 64) : Fin 16 ⊕ Fin 64) : Fin 80))) = .dma (rvS p.2 p.1) :=
    fun p => congrArg SemLoc.dma (Fin.ext (by show 1 + (16 + (32 + (p.2.val + 16 * p.1.val))) = 49 + (16 * p.1.val + p.2.val); omega))
  simp only [e1, e2, e3, e4]
  rfl

/-- The cells of one device, regrouped: those that are used, then those that never are. -/
theorem sep_ac (b c0 cs l t s0 f0 s1 f1 r0 g0 r1 g1 : sProp 𝕄) :
    iprop(((l ∗ t) ∗ (((s0 ∗ f0) ∗ (s1 ∗ f1)) ∗ ((r0 ∗ g0) ∗ (r1 ∗ g1)))) ∗ ((c0 ∗ cs) ∗ b))
      = iprop((b ∗ cs ∗ l ∗ t ∗ f0 ∗ f1 ∗ g0 ∗ g1) ∗ (c0 ∗ s0 ∗ s1 ∗ r0 ∗ r1)) := by
  refine sep_eq ⟨?_, ?_⟩
  · iintro ⟨⟨⟨l, t⟩, ⟨⟨s0, f0⟩, ⟨s1, f1⟩⟩, ⟨r0, g0⟩, ⟨r1, g1⟩⟩, ⟨c0, cs⟩, b⟩
    isplitl [b cs l t f0 f1 g0 g1]
    · isplitl [b]; · iexact b
      isplitl [cs]; · iexact cs
      isplitl [l]; · iexact l
      isplitl [t]; · iexact t
      isplitl [f0]; · iexact f0
      isplitl [f1]; · iexact f1
      isplitl [g0]; · iexact g0
      iexact g1
    isplitl [c0]; · iexact c0
    isplitl [s0]; · iexact s0
    isplitl [s1]; · iexact s1
    isplitl [r0]; · iexact r0
    iexact r1
  · iintro ⟨⟨b, cs, l, t, f0, f1, g0, g1⟩, c0, s0, s1, r0, r1⟩
    isplitr [c0 cs b]
    · isplitl [l t]
      · isplitl [l]; · iexact l
        iexact t
      isplitl [s0 f0 s1 f1]
      · isplitl [s0 f0]
        · isplitl [s0]; · iexact s0
          iexact f0
        isplitl [s1]; · iexact s1
        iexact f1
      isplitl [r0 g0]
      · isplitl [r0]; · iexact r0
        iexact g0
      isplitl [r1]; · iexact r1
      iexact g1
    isplitl [c0 cs]
    · isplitl [c0]; · iexact c0
      iexact cs
    iexact b

/-- All of them: the used ones and the idle ones. -/
theorem cells_split (Φ : SemLoc sig → sProp 𝕄) :
    (bigSep Finset.univ fun i : CellIx => Φ (semOf i) : sProp 𝕄) = iprop(usedF Φ ∗ idleF Φ) := by
  rw [bigSep_univ_sum, dma_split, pair_split sdS, pair_split rvS]
  have e : (bigSep Finset.univ fun i : Fin 17 => Φ (semOf (.inr i)) : sProp 𝕄)
      = iprop((Φ (.reg (crS 0)) ∗ fam fun k : Fin 15 => Φ (.reg (crS (dist k)))) ∗ Φ (.reg barS)) :=
    (reg_split Φ).trans (by rw [bigSep_first])
  rw [e]
  unfold usedF idleF
  exact sep_ac _ _ _ _ _ _ _ _ _ _ _ _ _

/-! ## Payments dealt around -/

/-- The device `r` after, and the device `r` before, as bijections. -/
def fwdE (r : Fin 16) : Dev nD ≃ Dev nD := ⟨fun c => fwd c r, fun c => bwd c r, fun c => bwd_fwd c r, fun c => fwd_bwd c r⟩
/-- Going `r` devices back, as a bijection of the devices. -/
def bwdE (r : Fin 16) : Dev nD ≃ Dev nD := (fwdE r).symm

/-- Something of every device at every distance, told by a device that many steps away. -/
theorem around (e : Fin 15 → (Dev nD ≃ Dev nD)) (Φ : Dev nD → Fin 15 → sProp 𝕄) :
    (bigSep Finset.univ fun c : Dev nD => fam fun k => Φ c k : sProp 𝕄) = bigSep Finset.univ fun c : Dev nD => fam fun k => Φ (e k c) k := by
  unfold fam
  rw [← bigSep_univ_prod fun p : Dev nD × Fin 15 => Φ p.1 p.2, ← bigSep_univ_prod fun p : Dev nD × Fin 15 => Φ (e p.2 p.1) p.2]
  exact bigSep_univ_equiv (⟨fun p => (e p.2 p.1, p.2), fun p => ((e p.2).symm p.1, p.2),
    fun p => Prod.ext ((e p.2).symm_apply_apply p.1) rfl, fun p => Prod.ext ((e p.2).apply_symm_apply p.1) rfl⟩ : Dev nD × Fin 15 ≃ Dev nD × Fin 15)
    fun p => Φ p.1 p.2

/-- The rights to pay all devices' cells are the rights that the devices need. -/
theorem toks_around :
    (bigSep Finset.univ fun c : Dev nD => usedF (F := F) (tok c) : sProp 𝕄) = bigSep Finset.univ fun c : Dev nD => toks c := by
  unfold usedF toks
  simp only [bigSep_sep']
  rw [around (fun k => bwdE (dist k)) fun c k => tok (F := F) c (.reg (crS (dist k))),
    around (fun k => fwdE (dist k)) fun c k => tok (F := F) c (.dma (rvS (dist k) 0)),
    around (fun k => fwdE (dist k)) fun c k => tok (F := F) c (.dma (rvS (dist k) 1))]
  rfl

/-! ## The launch's credits -/

/-- A debt to semaphore `s` of device `d` counts at device `c`'s cell only if the device and the semaphore are the same. -/
theorem tally_cell (d c : Dev nD) (s sm : SemLoc sig) (n : ℕ) :
    (tallyAt (cell d s) () n : CellTallies nD τ sig Unit) (cell c sm) () = if d = c ∧ s = sm then n else 0 := by
  rw [tallyAt_apply]
  by_cases h : d = c ∧ s = sm
  · rw [if_pos h, h.1, h.2, if_pos ⟨rfl, rfl⟩]
  · rw [if_neg h, if_neg fun h' => h ⟨Fin.ext (congrArg (fun g : GSem nD τ sig => g.1.1.val) h'.1).symm, (congrArg Prod.snd h'.1).symm⟩]

/-- What all devices together owe a cell out of a family of debts. -/
def dues (f : Dev nD → Fin 15 → CellTallies nD τ sig Unit) (c : Dev nD) (sm : SemLoc sig) : ℕ := ∑ d, ∑ k, f d k (cell c sm) ()

/-- A debt of each device at each distance `k` to semaphore `s k` of the device that far away: one device owes it. -/
theorem dues_hit (e : Fin 15 → (Dev nD ≃ Dev nD)) (s : Fin 15 → SemLoc sig) (hs : Function.Injective s) (n : ℕ) (c : Dev nD) (k : Fin 15) :
    dues (fun d k => tallyAt (cell (e k d) (s k)) () n) c (s k) = n := by
  unfold dues
  rw [Finset.sum_eq_single ((e k).symm c)]
  · rw [Finset.sum_eq_single k]
    · rw [tally_cell, if_pos ⟨Equiv.apply_symm_apply _ _, rfl⟩]
    · intro j _ hj; rw [tally_cell, if_neg fun h => hj (hs h.2)]
    · intro h; exact absurd (Finset.mem_univ _) h
  · intro d _ hd
    refine Finset.sum_eq_zero fun j _ => ?_
    rw [tally_cell, if_neg]
    rintro ⟨h1, h2⟩
    obtain rfl := hs h2
    exact hd ((Equiv.eq_symm_apply _).mpr h1)
  · intro h; exact absurd (Finset.mem_univ _) h
/-- Debts to other semaphores do not count. -/
theorem dues_miss (e : Fin 15 → (Dev nD ≃ Dev nD)) (s : Fin 15 → SemLoc sig) (n : ℕ) (c : Dev nD) (sm : SemLoc sig) (h : ∀ k, s k ≠ sm) :
    dues (fun d k => tallyAt (cell (e k d) (s k)) () n) c sm = 0 := by
  unfold dues
  refine Finset.sum_eq_zero fun d _ => Finset.sum_eq_zero fun j _ => ?_
  rw [tally_cell, if_neg fun h' => h j h'.2]

/-- With nothing of a family of debts paid yet, all devices together owe a cell its `dues`. -/
theorem sum_tail (f : Dev nD → Fin 15 → CellTallies nD τ sig Unit) (c : Dev nD) (sm : SemLoc sig) :
    ∑ d, tail (f d) 0 (cell c sm) () = dues f c sm := by
  unfold dues
  refine Finset.sum_congr rfl fun d _ => ?_
  rw [tail_zero, Finset.sum_apply, Finsupp.finsetSum_apply]

/-- What all devices together owe a cell at launch. -/
theorem owed_sum (c : Dev nD) (sm : SemLoc sig) :
    ∑ d : Dev nD, O₀ d (cell c sm) ()
      = dues (fun d k => rvT 1 d k) c sm + dues (fun d k => rvT 0 d k) c sm + dues (fun d k => crT d k) c sm + if SemLoc.reg barS = sm then 1 else 0 := by
  have e : ∀ d : Dev nD, O₀ d (cell c sm) () = tail (rvT 1 d) 0 (cell c sm) () + tail (rvT 0 d) 0 (cell c sm) () + tail (crT d) 0 (cell c sm) ()
      + if d = c ∧ SemLoc.reg barS = sm then 1 else 0 := fun d => by
    unfold O₀ oweCr barT
    simp only [Pi.add_apply, Finsupp.add_apply, tally_cell]
  simp only [e, Finset.sum_add_distrib, sum_tail]
  congr 1
  by_cases h : SemLoc.reg barS = sm
  · simp [h]
  · simp [h]

/-- Arrivals over different distances use different semaphores. -/
theorem rv_inj (g : Fin 2) : Function.Injective fun k : Fin 15 => (SemLoc.dma (rvS (dist k) g) : SemLoc sig) := by
  intro a b h
  have h1 : (49 + (16 * g.val + (a.val + 1))) = (49 + (16 * g.val + (b.val + 1))) := congrArg Fin.val (SemLoc.dma.inj h)
  exact Fin.ext (by omega)
/-- Credits of different distances use different semaphores. -/
theorem cr_inj : Function.Injective fun k : Fin 15 => (SemLoc.reg (crS (dist k)) : SemLoc sig) := by
  intro a b h
  have h1 : (a.val + 1) = (b.val + 1) := congrArg Fin.val (SemLoc.reg.inj h)
  exact Fin.ext (by omega)
/-- Arrivals of different halves use different semaphores. -/
theorem rv_ne (g g' : Fin 2) (h : g ≠ g') (k j : Fin 15) : (SemLoc.dma (rvS (dist k) g) : SemLoc sig) ≠ .dma (rvS (dist j) g') := by
  intro he
  have h1 : (49 + (16 * g.val + (k.val + 1))) = (49 + (16 * g'.val + (j.val + 1))) := congrArg Fin.val (SemLoc.dma.inj he)
  exact h (Fin.ext (by omega))
/-- No credit is the barrier's semaphore. -/
theorem cr_ne_bar (k : Fin 15) : (SemLoc.reg (crS (dist k)) : SemLoc sig) ≠ .reg barS := by
  intro he
  have h1 : (k.val + 1) = 16 := congrArg Fin.val (SemLoc.reg.inj he)
  omega

/-- All devices together owe a device's barrier one unit. -/
theorem owed_bar (c : Dev nD) : ∑ d : Dev nD, O₀ d (cell c (.reg barS)) () = 1 := by
  rw [owed_sum, if_pos rfl]
  have h1 : ∀ g, dues (fun d k => rvT g d k) c (.reg barS) = 0 := fun g =>
    dues_miss (fun k => fwdE (dist k)) (fun k => .dma (rvS (dist k) g)) Nx c _ fun k => by intro h; cases h
  have h2 : dues (fun d k => crT d k) c (.reg barS) = 0 :=
    dues_miss (fun k => bwdE (dist k)) (fun k => .reg (crS (dist k))) 1 c _ cr_ne_bar
  rw [h1, h1, h2]
/-- All devices together owe a credit cell one unit. -/
theorem owed_cr (c : Dev nD) (k : Fin 15) : ∑ d : Dev nD, O₀ d (cell c (.reg (crS (dist k)))) () = 1 := by
  rw [owed_sum, if_neg (cr_ne_bar k).symm]
  have h1 : ∀ g, dues (fun d k => rvT g d k) c (.reg (crS (dist k))) = 0 := fun g =>
    dues_miss (fun k => fwdE (dist k)) (fun k => .dma (rvS (dist k) g)) Nx c _ fun k => by intro h; cases h
  have h2 : dues (fun d k => crT d k) c (.reg (crS (dist k))) = 1 :=
    dues_hit (fun k => bwdE (dist k)) (fun k => .reg (crS (dist k))) cr_inj 1 c k
  rw [h1, h1, h2]
/-- All devices together owe an arrival cell one copy. -/
theorem owed_rv (c : Dev nD) (g : Fin 2) (k : Fin 15) : ∑ d : Dev nD, O₀ d (cell c (.dma (rvS (dist k) g))) () = Nx := by
  rw [owed_sum, if_neg (by intro h; cases h)]
  have h1 : dues (fun d k => rvT g d k) c (.dma (rvS (dist k) g)) = Nx :=
    dues_hit (fun k => fwdE (dist k)) (fun k => .dma (rvS (dist k) g)) (rv_inj g) Nx c k
  have h1' : ∀ g', g' ≠ g → dues (fun d k => rvT g' d k) c (.dma (rvS (dist k) g)) = 0 := fun g' hg =>
    dues_miss (fun k => fwdE (dist k)) (fun k => .dma (rvS (dist k) g')) Nx c _ fun j => rv_ne g' g hg j k
  have h2 : dues (fun d k => crT d k) c (.dma (rvS (dist k) g)) = 0 :=
    dues_miss (fun k => bwdE (dist k)) (fun k => .reg (crS (dist k))) 1 c _ fun j => by intro h; cases h
  rw [h2]
  obtain rfl | rfl : g = 0 ∨ g = 1 := by omega
  · rw [h1, h1' 1 (by decide)]; omega
  · rw [h1, h1' 0 (by decide)]; omega

/-- A cell's credit at launch. -/
theorem launch_crd (c : Dev nD) (sm : SemLoc sig) (n : ℕ) (h : ∑ d : Dev nD, O₀ d (cell c sm) () = n) :
    (cred (tallyOn (cell c sm) (launchCredit (Pipeline.owing O₀) 0 (cell c sm))) : sProp 𝕄) = crd c sm n := by
  unfold crd tallyAt
  refine congrArg _ (congrArg _ (Finsupp.ext fun u => ?_)); cases u
  rw [Pipeline.launchCredit_owing, Finsupp.single_eq_same]; exact h

/-- Different indices are different semaphores. -/
theorem semOf_injective : Function.Injective semOf := by
  rintro (i | i) (j | j) h
  · have h1 : 1 + i.val = 1 + j.val := congrArg Fin.val (SemLoc.dma.inj h)
    exact congrArg Sum.inl (Fin.ext (by omega))
  · cases h
  · cases h
  · exact congrArg Sum.inr (SemLoc.reg.inj h)

/-- The launch grants device `c` the credits it waits with. -/
theorem launch_crds (c : Dev nD) : (Pipeline.launchCred O₀ c : sProp 𝕄) ⊢ crds c := by
  have e1 : (Pipeline.launchCred O₀ c : sProp 𝕄)
      ⊢ bigSep Finset.univ fun i : CellIx => (cred (tallyOn (cell c (semOf i)) (launchCredit (Pipeline.owing O₀) 0 (cell c (semOf i)))) : sProp 𝕄) := by
    unfold Pipeline.launchCred
    have e : ∀ Φ : SemLoc sig → sProp 𝕄, (bigSep Finset.univ fun i : CellIx => Φ (semOf i) : sProp 𝕄) = bigSep (Finset.univ.map ⟨semOf, semOf_injective⟩) Φ :=
      fun Φ => (bigSep_map ⟨semOf, semOf_injective⟩ (Φ := Φ)).symm
    rw [e fun sm => (cred (tallyOn (cell c sm) (launchCredit (Pipeline.owing O₀) 0 (cell c sm))) : sProp 𝕄)]
    exact bigSep_subset (Finset.subset_univ _)
  refine e1.trans ?_
  rw [cells_split fun sm => (cred (tallyOn (cell c sm) (launchCredit (Pipeline.owing O₀) 0 (cell c sm))) : sProp 𝕄)]
  unfold usedF crds
  beta_reduce
  rw [launch_crd c _ _ (owed_bar c)]
  have e2 : ∀ k, (cred (tallyOn (cell c (.reg (crS (dist k)))) (launchCredit (Pipeline.owing O₀) 0 (cell c (.reg (crS (dist k)))))) : sProp 𝕄) = crd c (.reg (crS (dist k))) 1 :=
    fun k => launch_crd c _ _ (owed_cr c k)
  have e3 : ∀ g k, (cred (tallyOn (cell c (.dma (rvS (dist k) g))) (launchCredit (Pipeline.owing O₀) 0 (cell c (.dma (rvS (dist k) g))))) : sProp 𝕄) = crd c (.dma (rvS (dist k) g)) Nx :=
    fun g k => launch_crd c _ _ (owed_rv c g k)
  simp only [e2, e3]
  iintro ⟨⟨Hb, Hc, -, -, -, -, H0, H1⟩, -⟩
  isplitl [Hb]; · iexact Hb
  isplitl [Hc]; · iexact Hc
  isplitl [H0]; · iexact H0
  iexact H1

end Cert.KernelIdeal.Kp

end
-- ==== Proof.Launch.lean ====
/-
  The launch: the cells of all devices set up at once, each device's share of them, and what a device gives back.
-/
module

public import proofs.«01_k».proof.Proof.Cells

@[expose] public section

noncomputable section

namespace Cert.KernelIdeal.Kp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → S4096x1024.Idx → Elt F .f32) (G : Dev nD → S1024.Idx → Elt F .f32)

/-! ## The cells and the rights to pay them -/

/-- Different devices or indices are different cells. -/
theorem kcell_injective : Function.Injective kcell := by
  rintro ⟨c, i⟩ ⟨c', i'⟩ h
  have h1 : c = c' := Fin.ext (congrArg (fun g : GSem nD τ sig => g.1.1.val) h)
  exact Prod.ext h1 (semOf_injective (congrArg Prod.snd h))
/-- Every cell of the protocol. -/
def allCells : Finset (GSem nD τ sig) := Finset.univ.map ⟨kcell, kcell_injective⟩

/-- The right to pay a cell in its first round, as a key. -/
abbrev tokOf (p : Dev nD × CellIx) : GSem nD τ sig × ℕ × Unit := (kcell p, 0, ())
/-- Different cells have different rights. -/
theorem tokOf_injective : Function.Injective tokOf := fun p p' h => kcell_injective (congrArg Prod.fst h)
/-- Every right to pay. -/
def allToks : Finset (GSem nD τ sig × ℕ × Unit) := Finset.univ.map ⟨tokOf, tokOf_injective⟩

/-- The ghost state at launch: the pipeline's, and every cell and right of the protocol. -/
def u₀ : UU := (initOf (Pipeline.cells cfgs cellOf_inj) (Pipeline.launchToks cfgs cellOf_inj), initOf allCells allToks)

/-- What the launch gives device `c`: of each of its cells the state, the record of its first round, its place, and the
    right to pay. -/
def Gst (c : Dev nD) : sProp 𝕄 :=
  iprop((bigSep Finset.univ fun i : CellIx => roundState ER (Rd X G) (kcell (c, i)) 0)
    ∗ (bigSep Finset.univ fun i : CellIx => reached ER (kcell (c, i)) 0)
    ∗ (bigSep Finset.univ fun i : CellIx => posn c (semOf i) 0)
    ∗ bigSep Finset.univ fun i : CellIx => tok c (semOf i))

/-- The ghost state at launch gives every device its share. -/
theorem fund_cells : BI.own (ER (initOf allCells allToks)) ⊢ (|==> bigSep Finset.univ (Gst X G) : sProp 𝕄) := by
  have hX (Φ : GSem nD τ sig → sProp 𝕄) : bigSep allCells Φ = bigSep Finset.univ fun c : Dev nD => bigSep Finset.univ fun i : CellIx => Φ (kcell (c, i)) := by
    unfold allCells; rw [bigSep_map, bigSep_univ_prod]; rfl
  have hT : bigSep allToks (fun x => (dutyTok ER x.1 x.2.1 x.2.2 : sProp 𝕄)) = bigSep Finset.univ fun c : Dev nD => bigSep Finset.univ fun i : CellIx => tok c (semOf i) := by
    unfold allToks; rw [bigSep_map, bigSep_univ_prod]; rfl
  iintro H
  imod (Rounds.fund ER (Rd X G) allCells allToks) $$ H with ⟨Hst, Hr, Hat, Htok⟩
  imodintro
  ihave Hst := (Entails.of_eq (hX fun g => roundState ER (Rd X G) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Gst; simp only [bigSep_sep']
  isplitl [Hst]; · iexact Hst
  isplitl [Hr]; · iexact Hr
  isplitl [Hat]; · iexact Hat
  iexact Htok

/-! ## The kernel's own semaphores -/

/-- The semaphores the kernel allocates: all of the protocol's but the barrier. -/
abbrev osem : Fin 80 ⊕ Fin 16 → SemLoc sig
  | .inl i => semOf (.inl i)
  | .inr i => .reg (crS i)

/-- The protocol's scoped semaphores are scoped, distinct, and none of the pipeline's. -/
theorem ownSemFacts : Pipeline.OwnSemFacts cfg0.spec osem where
  isScoped := by decide
  inj := by
    rintro (i | i) (j | j) h
    · exact congrArg Sum.inl (Sum.inl.inj (semOf_injective h))
    · cases h
    · cases h
    · have h1 : i.val = j.val := congrArg (fun x : Fin 17 => x.val) (SemLoc.reg.inj h)
      exact congrArg Sum.inr (Fin.ext h1)
  disj := by
    rintro (i | i) w s h
    · have h1 : 1 + i.val = ((cfg0.spec w).sem s).val := congrArg Fin.val (SemLoc.dma.inj h)
      have h2 : ∀ (w : Fin cfg0.W) (s : Fin (cfg0.spec w).nbuf), ((cfg0.spec w).sem s).val = 0 := by decide
      have h3 := h2 w s
      omega
    · cases h

/-- The unscoped semaphores at zero: the barrier alone. -/
theorem unscopedSems0_eq (c : Dev nD) : (unscopedSems0 c : sProp 𝕄) = semVal (cell c (.reg barS)) 0 := by
  unfold unscopedSems0; rw [bigSep_eq_bigSepL_of_eq [SemLoc.reg barS] (by decide) (by decide)]; rfl

/-- Every semaphore of the protocol at zero. -/
def zeros (c : Dev nD) : sProp 𝕄 := bigSep Finset.univ fun i : CellIx => semVal (kcell (c, i)) 0

/-- The protocol's semaphores at zero are the scoped ones and the barrier. -/
theorem sems0_eq (c : Dev nD) :
    iprop(Pipeline.ownSems0 (Ix := Unit) (Name := ℕ) (U := UU) (Lvl := ℕ) (Val := Elt F) (τ := τ) osem c ∗ unscopedSems0 c) = (zeros c : sProp 𝕄) := by
  have e : (zeros c : sProp 𝕄) = iprop((bigSep Finset.univ fun i : Fin 80 => semVal (kcell (c, .inl i)) 0) ∗ bigSep Finset.univ fun i : Fin 17 => semVal (cell c (.reg i)) 0) :=
    bigSep_univ_sum _
  rw [e, reg_split fun sm => semVal (cell c sm) 0, unscopedSems0_eq]
  unfold Pipeline.ownSems0
  rw [bigSep_univ_sum]
  exact sep_eq Laws.sep_assoc

/-! ## Setting up -/

/-- What device `c` starts with: the records of all cells, its places, its rights to pay. -/
def Own0 (c : Dev nD) : sProp 𝕄 := iprop((usedF (fun sm => posn c sm 0) ∗ idleF (fun sm => posn c sm 0)) ∗ toks c)
/-- The records without the levels. -/
def Rec0 : sProp 𝕄 := bigSep Finset.univ fun p : Dev nD × CellIx => iprop(∃ n : ℕ, cellInv ER (Rd X G) n (kcell p) ∗ reached ER (kcell p) 0)
/-- The records can be kept by everyone. -/
instance Rec0_persistent : BI.Persistent (Rec0 X G) := by unfold Rec0; infer_instance
/-- What device `c` is given at launch: the shared records and its own part. -/
def Gdev (c : Dev nD) : sProp 𝕄 := iprop(Rec0 X G ∗ Own0 c)

/-- A device's semaphores at zero and its launch share become its cells' records, its places and its rights to pay. -/
theorem core_alloc (c : Dev nD) :
    iprop(Pipeline.ownSems0 (Ix := Unit) (Name := ℕ) (U := UU) (Lvl := ℕ) (Val := Elt F) (τ := τ) osem c ∗ unscopedSems0 c ∗ Gst X G c)
      ⊢ |={Set.univ}=> iprop((bigSep Finset.univ fun i : CellIx => iprop(∃ n : ℕ, cellInv ER (Rd X G) n (kcell (c, i)) ∗ reached ER (kcell (c, i)) 0))
          ∗ (bigSep Finset.univ fun i : CellIx => posn c (semOf i) 0) ∗ bigSep Finset.univ fun i : CellIx => tok c (semOf i)) := by
  have e1 : (iprop(zeros c ∗ bigSep Finset.univ fun i : CellIx => roundState ER (Rd X G) (kcell (c, i)) 0) : sProp 𝕄)
      ⊢ |={Set.univ}=> bigSep Finset.univ fun i : CellIx => iprop(∃ n : ℕ, cellInv ER (Rd X G) n (kcell (c, i))) := by
    unfold zeros
    rw [← bigSep_sep']
    exact (bigSep_mono fun i _ => (Rounds.body_intro ER (Rd X G) (kcell (c, i))).trans inv_alloc).trans (bigSep_fupd _ _)
  have e2 : ∀ i : CellIx, (iprop((∃ n : ℕ, cellInv ER (Rd X G) n (kcell (c, i))) ∗ reached ER (kcell (c, i)) 0) : sProp 𝕄)
      ⊢ iprop(∃ n : ℕ, cellInv ER (Rd X G) n (kcell (c, i)) ∗ reached ER (kcell (c, i)) 0) := fun i => by
    iintro ⟨⟨%n, H⟩, Hr⟩
    iexists n
    isplitl [H]; · iexact H
    iexact Hr
  have e3 : (iprop((bigSep Finset.univ fun i : CellIx => iprop(∃ n : ℕ, cellInv ER (Rd X G) n (kcell (c, i)))) ∗ bigSep Finset.univ fun i : CellIx => reached ER (kcell (c, i)) 0) : sProp 𝕄)
      ⊢ bigSep Finset.univ fun i : CellIx => iprop(∃ n : ℕ, cellInv ER (Rd X G) n (kcell (c, i)) ∗ reached ER (kcell (c, i)) 0) := by
    rw [← bigSep_sep']; exact bigSep_mono fun i _ => e2 i
  unfold Gst
  iintro ⟨Hos, Hus, Hst, Hr, Hat, Htok⟩
  ihave Hv := (Entails.of_eq (sems0_eq (F := F) c)) $$ [Hos Hus]
  · isplitl [Hos] <;> iassumption
  imod e1 $$ [Hv Hst] with HI
  · isplitl [Hv] <;> iassumption
  imodintro
  isplitl [HI Hr]
  · iapply e3
    isplitl [HI] <;> iassumption
  isplitl [Hat]; · iexact Hat
  iexact Htok

/-- The rights to pay go from the device paid to the device that pays. -/
theorem regroup :
    (bigSep Finset.univ fun c : Dev nD => iprop((bigSep Finset.univ fun i : CellIx => iprop(∃ n : ℕ, cellInv ER (Rd X G) n (kcell (c, i)) ∗ reached ER (kcell (c, i)) 0))
          ∗ (bigSep Finset.univ fun i : CellIx => posn c (semOf i) 0) ∗ bigSep Finset.univ fun i : CellIx => tok c (semOf i)) : sProp 𝕄)
      ⊢ bigSep Finset.univ (Gdev X G) := by
  have ep : ∀ c : Dev nD, (bigSep Finset.univ fun i : CellIx => posn c (semOf i) 0 : sProp 𝕄) = iprop(usedF (fun sm => posn c sm 0) ∗ idleF (fun sm => posn c sm 0)) :=
    fun c => cells_split fun sm => posn c sm 0
  have et : (bigSep Finset.univ fun c : Dev nD => bigSep Finset.univ fun i : CellIx => tok c (semOf i) : sProp 𝕄) ⊢ bigSep Finset.univ fun c : Dev nD => toks c := by
    rw [← toks_around]
    have e : ∀ c : Dev nD, (iprop(usedF (tok c) ∗ idleF (tok c)) : sProp 𝕄) ⊢ usedF (tok c) := fun c => by iintro ⟨H, -⟩; iexact H
    refine bigSep_mono fun c _ => ?_
    rw [cells_split (tok c)]
    exact e c
  have eR : (bigSep Finset.univ fun c : Dev nD => bigSep Finset.univ fun i : CellIx => iprop(∃ n : ℕ, cellInv ER (Rd X G) n (kcell (c, i)) ∗ reached ER (kcell (c, i)) 0) : sProp 𝕄) = Rec0 X G := by
    unfold Rec0; rw [bigSep_univ_prod]
  simp only [bigSep_sep', ep, eR]
  unfold Gdev Own0
  simp only [bigSep_sep']
  iintro ⟨#HR, Hat, Htok⟩
  ihave Htok := et $$ Htok
  isplitr
  · iapply (BI.bigSep_of_persistent Finset.univ (Rec0 X G)); iexact HR
  isplitl [Hat]; · iexact Hat
  iexact Htok

/-- All devices' semaphores at zero and launch shares become every device's start. -/
theorem glob : (bigSep Finset.univ fun c => iprop(Pipeline.ownSems0 (Ix := Unit) (Name := ℕ) (U := UU) (Lvl := ℕ) (Val := Elt F) (τ := τ) osem c ∗ unscopedSems0 c ∗ Gst X G c) : sProp 𝕄)
    ⊢ |={Set.univ}=> bigSep Finset.univ (Gdev X G) :=
  ((bigSep_mono fun c _ => core_alloc X G c).trans (bigSep_fupd _ _)).trans (BI.fupd_mono (regroup X G))

/-! ## Closing -/

/-- The round a cell ends in. -/
def endR (sm : SemLoc sig) : ℕ := if used sm = true then 1 else 0

/-- Nothing is due in a cell from its last round on. -/
theorem duties_end (c : Dev nD) (sm : SemLoc sig) : ∀ r, endR sm ≤ r → (Rd (F := F) X G).duties (cell c sm) r = ∅ := by
  intro r hr
  unfold endR at hr
  by_cases h : used sm = true
  · rw [if_pos h] at hr; exact duties_later X G _ r hr
  · exact duties_unused X G c sm (Bool.not_eq_true _ ▸ h) r

/-- A cell in its last round gives its semaphore back at zero. -/
theorem close_cell (c : Dev nD) (i : CellIx) : iprop(Rec0 X G ∗ posn c (semOf i) (endR (semOf i))) ⊢ |={Set.univ}=> semVal (kcell (c, i)) 0 := by
  have e : Rec0 X G ⊢ iprop(∃ n : ℕ, cellInv ER (Rd (F := F) X G) n (kcell (c, i)) ∗ reached ER (kcell (c, i)) 0) := by
    unfold Rec0; exact bigSep_elim (Finset.mem_univ (c, i))
  unfold posn
  iintro ⟨H, Hp⟩
  ihave ⟨%n, H, -⟩ := e $$ H
  iapply (Rounds.cell_close ER (Rd X G) (κ := n) (Set.mem_univ _) (fun h => h) (duties_end X G c (semOf i)))
  isplitl [H]; · iexact H
  iexact Hp

/-- At the end every semaphore is zero. -/
theorem close_all (c : Dev nD) : iprop(Rec0 X G ∗ poss c 1 ∗ idleF (fun sm => posn c sm 0)) ⊢ |={Set.univ}=> zeros c := by
  have eU : (poss c 1 : sProp 𝕄) = usedF fun sm => posn c sm (endR sm) := by
    unfold poss usedF endR
    simp only [used_bar, used_cr, used_ld, used_st, used_sd, used_rv, if_true]
  have eI : (idleF (fun sm => posn c sm 0) : sProp 𝕄) = idleF fun sm => posn c sm (endR sm) := rfl
  have eA : (iprop(usedF (fun sm => posn c sm (endR sm)) ∗ idleF fun sm => posn c sm (endR sm)) : sProp 𝕄)
      ⊢ bigSep Finset.univ fun i : CellIx => posn c (semOf i) (endR (semOf i)) := Entails.of_eq (cells_split fun sm => posn c sm (endR sm)).symm
  have eC : (iprop(Rec0 X G ∗ bigSep Finset.univ fun i : CellIx => posn c (semOf i) (endR (semOf i))) : sProp 𝕄) ⊢ |={Set.univ}=> zeros c := by
    have h1 : (iprop(Rec0 X G ∗ bigSep Finset.univ fun i : CellIx => posn c (semOf i) (endR (semOf i))) : sProp 𝕄)
        ⊢ bigSep Finset.univ fun i : CellIx => iprop(Rec0 X G ∗ posn c (semOf i) (endR (semOf i))) := by
      rw [bigSep_sep']; exact sep_mono_left (BI.bigSep_of_persistent Finset.univ (Rec0 X G))
    unfold zeros
    exact (h1.trans (bigSep_mono fun i _ => close_cell X G c i)).trans (bigSep_fupd _ _)
  rw [eU, eI]
  iintro ⟨HR, Hp⟩
  ihave Hp := eA $$ Hp
  iapply eC
  isplitl [HR]; · iexact HR
  iexact Hp

end Cert.KernelIdeal.Kp

end
-- ==== Proof.Run.lean ====
/-
  The run of the kernel on its sixteen devices: it ends, with the arguments unchanged, the result computed and every
  semaphore at zero.
-/
module

public import proofs.«01_k».proof.Proof.Launch
public import Idealize.ShloMosaic.Lib.Pipeline.CollectiveSegs

@[expose] public section

noncomputable section

namespace Cert.KernelIdeal.Kp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- x and gamma as device `c` holds them at the start. -/
def xOf (c : Dev nD) : S4096x1024.Idx → Elt F .f32 := m ((c : Thread nD τ).loc main_arg0)
/-- Device `c`'s piece of gamma at launch. -/
def gOf (c : Dev nD) : S1024.Idx → Elt F .f32 := m ((c : Thread nD τ).loc main_arg1)

/-- What device `c` holds before the body, but for fast memory; -/
def start (c : Dev nD) : sProp 𝕄 := iprop(Gdev (xOf m) (gOf m) c ∗ crds c ∗ Lev ∗ arr0 (xOf m) c)
/-- with fast memory; -/
def Φ₀ (c : Dev nD) : sProp 𝕄 := iprop(start m c ∗ fast c)
/-- after the body. -/
def Φ₁ (c : Dev nD) : sProp 𝕄 := iprop(arr1 (xOf m) (gOf m) c ∗ fast c ∗ zeros c)

/-- The data of the one pipeline point: gamma staged and left, the body's start and end. -/
def dats (_ : Fin 1) (c : Dev nD) : Dat τ (Elt F) Unit ℕ UU ℕ cfg0 c where
  A w := m ((cfg0.win w).arr.view.loc (c : Thread nD τ))
  after w _ := match w with
    | ⟨0, _⟩ => gOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Every staged window is held whole. -/
theorem share_eq (c : Dev nD) (w : Fin cfg0.W) : (dats m 0 c).share w = fullShare := by unfold Dat.share; split <;> rfl

/-! ## The body's obligation -/

/-- Holding a whole buffer at contents `Y`. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-- The one window is fetched at the one point. -/
theorem fetch_0 (t : Fin cfg0.N) : (cfg0.win (0 : Fin 1)).fetch t = true := by rw [fin_N0 t]; rfl

/-- The staged piece of gamma, holding `Y`. -/
abbrev stg (c : Dev nD) (Y : S1024.Idx → Elt F .f32) : sProp 𝕄 :=
  iprop(∃ f : Buf (Elt F) ((c : Thread nD τ).loc cc0_stg0_0), ⌜f = Y⌝ ∗ (((c : Thread nD τ).loc cc0_stg0_0) ↦{fullShare} f))

/-- What the body starts from. -/
def bodyPre (c : Dev nD) : sProp 𝕄 :=
  iprop(Φ₀ m c ∗ (dats m 0 c).owesAt () t0_0.castSucc ∗ (∃ d, stg c ((dats m 0 c).before (0 : Fin 1) t0_0 d)))
/-- What the body ends with. -/
def bodyPost (c : Dev nD) : sProp 𝕄 :=
  iprop(Φ₁ m c ∗ (dats m 0 c).owesAt () t0_0.succ ∗ stg c (gOf m c))

/-- An update after the body is part of it. -/
theorem wp_close (c : Dev nD) (p : P F PUnit) (Q : PUnit → sProp 𝕄) : (WP c p fun a => iprop(|={Set.univ}=> Q a)) ⊢ WP c p Q := wp_fupd _ _ _ _ _

/-- The staged copy of device `c`'s piece of gamma is that piece. -/
theorem fetched_gamma (c : Dev nD) (d) : (dats m 0 c).fetched (0 : Fin 1) t0_0 d = gOf m c := by
  unfold Pipeline.Dat.fetched
  funext j
  unfold Pipeline.Window.fill
  have hm : (cfg0.win (0 : Fin 1)).moved (cfg0.grid.coords t0_0) j = true :=
    ((cfg0.win (0 : Fin 1)).moved_iff _ j).mpr fun a => (j a).isLt
  rw [dif_pos hm]
  unfold Pipeline.Dat.blockOf
  rw [View.read_apply]
  unfold gOf
  show m ((c : Thread nD τ).loc main_arg1) _ = m ((c : Thread nD τ).loc main_arg1) _
  refine congrArg _ ?_
  funext a
  refine Fin.ext ?_
  rw [View.emb_slice]
  rw [Function.Embedding.trans_apply, View.emb_whole]
  refine (Rect.emb_apply ((cfg0.win (0 : Fin 1)).rect t0_0) _ a).trans ?_
  have e0 : ((cfg0.win (0 : Fin 1)).rect t0_0).off a = 0 := by
    revert a; decide
  have e1 : ((cfg0.win (0 : Fin 1)).rect t0_0).stride a = 1 := rfl
  rw [e0, e1]
  show 0 + 1 * (j a).val = (j a).val
  omega

/-- The body from its start to its end, its cells closed by an update. -/
theorem sound_body' (c : Dev nD) : (bodyPre m c : sProp 𝕄) ⊢ WP c tidy fun _ => iprop(|={Set.univ}=> bodyPost m c) := by
  have e : (iprop(Rec0 (xOf m) (gOf m) ∗ Lev) : sProp 𝕄) ⊢ Rec (xOf m) (gOf m) := by
    unfold Rec Rec0; iintro ⟨H, HL⟩
    isplitl [HL]; · iexact HL
    iexact H
  have eP : (usedF (fun sm => posn c sm 0) : sProp 𝕄) ⊢ poss c 0 := Entails.of_eq rfl
  unfold bodyPre Φ₀ start Gdev Own0
  iintro ⟨⟨⟨⟨#HR, ⟨Hp, Hi⟩, Ht⟩, Hc, #HL, Ha⟩, Hf⟩, HO, ⟨%d, %g, %hg, Hg⟩⟩
  have hg' : g = gOf m c := by rw [hg]; unfold Dat.before; rw [if_pos (fetch_0 t0_0)]; exact fetched_gamma m c d
  subst hg'
  unfold Dat.owesAt Pipeline.owesWithin
  icases HO with ⟨%W, -, HO⟩
  iapply (body_tidy (xOf m) (gOf m) c fun _ => iprop(|={Set.univ}=> bodyPost m c))
  isplitr [Hi]
  · isplitr
    · iapply e
      isplitr; · iexact HR
      iexact HL
    isplitl [HO]; · unfold Own; iexists W; iexact HO
    isplitl [Ht]; · iexact Ht
    isplitl [Hc]; · iexact Hc
    isplitl [Hp]; · iapply eP; iexact Hp
    isplitl [Ha]; · iexact Ha
    isplitl [Hf]; · iexact Hf
    unfold gP; iexact Hg
  · iintro ⟨HO, Hp, Ha, Hf, Hg⟩
    imod (close_all (xOf m) (gOf m) c) $$ [Hp Hi] with Hz
    · isplitr; · iexact HR
      isplitl [Hp]; · iexact Hp
      iexact Hi
    imodintro
    unfold bodyPost Φ₁ Dat.owesAt Pipeline.owesWithin
    isplitl [Ha Hf Hz]
    · isplitl [Ha]; · iexact Ha
      isplitl [Hf]; · iexact Hf
      iexact Hz
    isplitl [HO]
    · unfold Own
      icases HO with ⟨%W', HO⟩
      iexists W'
      isplitr; · ipureintro; exact fun _ _ => Or.inl trivial
      iexact HO
    iexists _
    isplitr; · ipureintro; rfl
    unfold gP; iexact Hg

/-- The body from its start to its end. -/
theorem sound_body (c : Dev nD) : bodyPre m c ⊢ WP c tidy fun _ => bodyPost m c := (sound_body' m c).trans (wp_close c tidy fun _ => bodyPost m c)

/-- The body at any memref equal to the staged piece is the body with its loops folded. -/
theorem body_at (g : Memref sig .tc .vmem S1024 .f32) (hg : g.IsWhole) (h : g = gM) :
    cc0_body (F := F) xM (Memref.isWhole_whole _) g hg oM (Memref.isWhole_whole _)
    xvM (Memref.isWhole_whole _) ovM (Memref.isWhole_whole _) cmM (Memref.isWhole_whole _)
    cc0_scratch3 cc0_scratch4 cc0_scratch5 cc0_scratch6 cc0_scratch7 = tidy := by
  subst h; exact body_eq_tidy

/-- The body the pipeline runs is the body with its loops folded. -/
theorem defs_tidy : defs₀ (F := F) Proc.tc 0 (t0_0, cfg0.slots t0_0) = tidy := by
  unfold defs₀ Defs.onTc
  exact body_at _ _ rfl

set_option maxRecDepth 4000 in
/-- The body meets the pipeline's obligation. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  rw [defs_tidy]
  have e := sound_body m c
  unfold bodyPre bodyPost stg at e
  generalize (tidy : P F PUnit) = p at e ⊢
  exact e

/-! ## The launch's side conditions -/

/-- What the launch hands a device is its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Gdev (xOf m) (gOf m) c)
      ⊢ |={Set.univ}=> iprop(start m c ∗ (emp : sProp 𝕄)) := by
  rw [Pipeline.unscopedRestP_none, unscopedRest0_eq]
  iintro ⟨⟨Hx, Ho⟩, Hl, Hcr, -, HG⟩
  ihave Hc := (launch_crds (F := F) c) $$ Hcr
  imodintro
  unfold start arr0 Lev
  isplitl
  · isplitl [HG]; · iexact HG
    isplitl [Hc]; · iexact Hc
    isplitl [Hl]; · iexact Hl
    isplitl [Hx]; · iexact Hx
    iexists _; iexact Ho
  · iempintro

/-- A device's start and its scoped buffers are what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ fast
  iintro ⟨Hs, -, Hr⟩
  isplitl [Hs]; · iexact Hs
  iexact Hr

/-- What a device gives back: the barrier at zero, x, the result. -/
def back (c : Dev nD) : sProp 𝕄 := iprop(unscopedSems0 c ∗ arr1 (xOf m) (gOf m) c)

/-- What the body ends with is what a device gives back, its semaphores at zero and its scoped buffers. -/
theorem phi1_exit (c : Dev nD) :
    (dats m 0 c).Φ (Fin.last cfg0.N) ⊢ iprop(back m c ∗ Pipeline.ownSems0 osem c ∗ Pipeline.scopedRest cfg0.spec c) := by
  rw [show (dats m 0 c).Φ (Fin.last cfg0.N) = Φ₁ m c from rfl, scopedRest0_eq]
  unfold Φ₁ back fast
  rw [← sems0_eq]
  iintro ⟨Ha, Hf, Hos, Hus⟩
  isplitl [Ha Hus]
  · isplitl [Hus]; · iexact Hus
    iexact Ha
  isplitl [Hos]; · iexact Hos
  iexact Hf

/-- The staging semaphores are at level 0. -/
theorem lv_stage (c : Dev nD) : ∀ (w : Fin cfg0.W) (s : Fin (cfg0.win w).nbuf), lv (cell c (.dma ((cfg0.win w).sem s))) () ≤ 0 := by
  intro w s
  have h : ∀ (w : Fin cfg0.W) (s : Fin (cfg0.win w).nbuf), (if 49 ≤ ((cfg0.win w).sem s).val then 3 else 0) = 0 := by decide
  exact le_of_eq (h w s)

/-- The pipeline's own waits are allowed: all that is owed lies above them. -/
theorem waits (c : Dev nD) : (levAts L lv : sProp 𝕄) ⊢ Pipeline.cellsWaits cfgs (dats m) () 0 c :=
  Pipeline.cellsWaits_intro cfgs (dats m) () 0 c fun w s t =>
    mayWait c _ 0 _ (lv_stage c w s) (by
      rcases t with ⟨_ | _, ht⟩
      · exact above_O₀ c
      · exact above_zero 0)

/-- A whole buffer held is what the memory holds. -/
theorem read_back (c : Dev nD) (s' : Phys nD τ sig (Elt F)) :
    iprop(back m c ∗ (emp : sProp 𝕄) ∗ SI s')
      ⊢ |={Set.univ}=> iprop(⌜(∀ sm : SemLoc sig, sm.isScoped .tc = false → s'.mem.sem ((c.tc : Thread nD τ), sm) = 0)
          ∧ s'.mem.mem ((c : Thread nD τ).loc main_arg0) = xOf m c ∧ s'.mem.mem ((c : Thread nD τ).loc main_v1) = outV (xOf m) (gOf m) c⌝ ∗ SI s') := by
  unfold back arr1
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ hx, Buf.eq_of_forall_mem_univ ho⟩
  iexact HSI

/-! ## The run -/

/-- What the run ends with. -/
def Final : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = outV (xOf m) (gOf m) c) ∧ r.2.sem = fun _ => 0

set_option maxRecDepth 8000 in
/-- From any memory with all semaphores at zero, every fair run of the kernel on its sixteen devices ends, and then each
    device's x and gamma are unchanged, its result is `outV`, and every semaphore is at zero. -/
theorem run_main : θ_run defs (onTc (τ := τ) (main (F := F))) ⟨m, fun _ => 0, ρ⟩ (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := Gst (xOf m) (gOf m)) (G' := Gdev (xOf m) (gOf m)) (u₀ := u₀)
    (hu₀ := by
      unfold u₀
      iintro Hu
      ihave H := (ownU_pair _ _) $$ Hu
      icases H with ⟨HP, HX⟩
      imod (fund_cells (xOf m) (gOf m)) $$ HX with HG
      imodintro
      isplitl [HP] <;> iassumption)
    (hglob := glob (xOf m) (gOf m))
    (hA := fun _ _ => rfl) (hpf := fun _ k => k.elim0)
    (X := start m) (Y := back m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = xOf m c ∧ s.mem ((c : Thread nD τ).loc main_v1) = outV (xOf m) (gOf m) c)
    (hY := read_back m)
    (hQ := fun s h hs => ⟨fun c => ⟨(h c).2.2.2.1, ((h c).1 (0 : Fin 1)).trans ((dats m 0 c).arrAt_in (0 : Fin 1) rfl _), (h c).2.2.2.2⟩,
      sem_eq_zero hs fun c => (h c).2.2.1⟩)

end Cert.KernelIdeal.Kp

end
-- ==== Proof.Same.lean ====
/- The program read at the machine's words and the program read over the extended reals are the same text: at any
   floats the two name equal tables of bodies, so a run of the second is a run of the first. -/
module

public import proofs.«01_k».proof.Defs
public import proofs.«01_k».proof.Proof.Run
public import proofs.«01_k».proof.Proof.Gen.Kernel

@[expose] public section

noncomputable section

namespace Cert.Same

open Idealize.ShloMosaic Idealize.SL.Sem

variable {F : FTy → Type} [FloatOps F]

set_option maxRecDepth 20000 in
/-- The two kernel bodies are one. -/
theorem body_same : @Cert.Kernel.cc0_body F _ Cert.Kernel.Gen.facts = @Cert.KernelIdeal.cc0_body F _ Cert.KernelIdeal.Gen.facts := by rfl

/-- The two tables of kernel bodies are one. -/
theorem bodies_same : Cert.Kernel.defs₀ (F := F) = Cert.KernelIdeal.defs₀ (F := F) := by
  unfold Cert.Kernel.defs₀ Cert.KernelIdeal.defs₀
  rw [body_same]
  refine congrArg Defs.onTc (funext fun l => funext fun a => ?_)
  match l, a with
  | 0, (t, s) => rfl
  | ⟨_ + 1, h⟩, _ => exact absurd h (Nat.not_lt.2 (Nat.le_add_left _ _))

/-- The two tables of everything a call may enter are one. -/
theorem defs_same : Cert.Kernel.defs (F := F) = Cert.KernelIdeal.defs (F := F) := by
  unfold Cert.Kernel.defs Cert.KernelIdeal.defs
  rw [bodies_same]
  rfl

end Cert.Same

end
-- ==== Proof.Block.lean ====
/-
  What one device computes, element by element, over the extended reals.

  `sums_apply`: one payload of sums is, for each row of a chunk, the sum of the row's squares. `norm_apply`: one payload
  of results is x · rsqrt(total · 2⁻¹⁴ + eps) · gamma, with the total over the sixteen rows of the received sums.
  `out_apply`: so a device's result at (r, l) is that with the total over the sixteen devices before it.
-/
module

public import proofs.«01_k».proof.Proof.Windows
public import Idealize.ShloMosaic.Lib.Pointwise

@[expose] public section

noncomputable section

namespace Cert.KernelIdeal.Kp

open Idealize.ShloMosaic Idealize.ShloMosaic.TcCoe
open Idealize.SL Idealize.SL.Sem
open Cert.KernelIdeal.Gen

/-- The factor the kernel multiplies a total by. -/
abbrev scaleW : EReal := Ideal.ofBits .f32 0x38800000#32
/-- What is added under the root. -/
abbrev epsW : EReal := Ideal.ofBits .f32 0x3727C5AC#32

/-- A row of one chunk of sums: the sum of the squares of that row. -/
theorem sums_apply (v : Vec Ideal S512x1024 .f32) (k : Fin 512) :
    k0_pay1 (F := Ideal) v (ix2 (0 : Fin 1) k) = ∑ l : Fin 1024, v (ix2 k l) * v (ix2 k l) := by
  pointwise [k0_pay1]

/-- One element of a chunk of results. -/
theorem norm_apply (s : Vec Ideal S16x512 .f32) (v : Vec Ideal S512x1024 .f32) (g : Vec Ideal S1024 .f32) (k : Fin 512) (l : Fin 1024) :
    k0_pay9 (F := Ideal) s v g (ix2 k l)
      = v (ix2 k l) * Ideal.rsqrt ((∑ r : Fin 16, s (ix2 r k)) * scaleW + epsW) * g (ix1 l) := by
  pointwise [k0_pay9]

/-- An index of one row of sums, by its two coordinates. -/
theorem pIdx_eq (k : ℕ) (h : k < 512) : pIdx k h = ix2 (0 : Fin 1) (⟨k, h⟩ : Fin 512) := by
  funext a; match a with
  | ⟨0, _⟩ => rfl
  | ⟨1, _⟩ => rfl

/-- An index of one chunk, by its two coordinates. -/
theorem qIdx_eq (k : ℕ) (h : k < 512) (l : Fin 1024) : qIdx k h l = ix2 (⟨k, h⟩ : Fin 512) l := by
  funext a; match a with
  | ⟨0, _⟩ => rfl
  | ⟨1, _⟩ => rfl

/-- Chunk `c` of an array, at a row and a column of the chunk. -/
theorem chunkV_apply (x : S4096x1024.Idx → Elt Ideal .f32) (c : Fin 8) (k : Fin 512) (l : Fin 1024) :
    chunkV x c (ix2 k l) = x (ix2 (⟨512 * c.val + k.val, by omega⟩ : Fin 4096) l) := by
  unfold chunkV
  refine congrArg x (funext fun a => Fin.ext ?_)
  match a with
  | ⟨0, _⟩ => show 512 * c.val + 1 * k.val = 512 * c.val + k.val; omega
  | ⟨1, _⟩ => show 0 + 1 * l.val = l.val; omega

/-- The columns of chunk `c` of the sums, at a row and a column of the chunk. -/
theorem stackV_apply (s : S16x4096.Idx → Elt Ideal .f32) (c : Fin 8) (r : Fin 16) (k : Fin 512) :
    stackV s c (ix2 r k) = s (ix2 r (⟨512 * c.val + k.val, by omega⟩ : Fin 4096)) := by
  unfold stackV
  refine congrArg s (funext fun a => Fin.ext ?_)
  match a with
  | ⟨0, _⟩ => show 0 + 1 * r.val = r.val; omega
  | ⟨1, _⟩ => show 512 * c.val + 1 * k.val = 512 * c.val + k.val; omega

variable (X : Dev nD → S4096x1024.Idx → Elt Ideal .f32) (G : Dev nD → S1024.Idx → Elt Ideal .f32)

/-- Row `r` of the sums on device `t`, at `p`: the sum of the squares of row `p` on the device `r` before `t`. -/
theorem comm_apply (t : Dev nD) (r : Fin 16) (p : Fin 4096) :
    commV X t (ix2 r p) = ∑ l : Fin 1024, X (bwd t r) (ix2 p l) * X (bwd t r) (ix2 p l) := by
  have e : (⟨512 * (p.val / 512) + p.val % 512, by omega⟩ : Fin 4096) = p := Fin.ext (Nat.div_add_mod _ _)
  unfold commV
  rw [pIdx_eq, sums_apply]
  refine Finset.sum_congr rfl fun l _ => ?_
  rw [chunkV_apply]
  exact congrArg (fun q : Fin 4096 => X (bwd t r) (ix2 q l) * X (bwd t r) (ix2 q l)) e

/-- Device `c`'s result at row `p` and column `l`. -/
theorem out_apply (c : Dev nD) (p : Fin 4096) (l : Fin 1024) :
    outV X G c (ix2 p l)
      = X c (ix2 p l) * Ideal.rsqrt ((∑ r : Fin 16, ∑ j : Fin 1024, X (bwd c r) (ix2 p j) * X (bwd c r) (ix2 p j)) * scaleW + epsW) * G c (ix1 l) := by
  have e : (⟨512 * (p.val / 512) + p.val % 512, by omega⟩ : Fin 4096) = p := Fin.ext (Nat.div_add_mod _ _)
  unfold outV
  have hq : p.val / 512 < 8 := by omega
  have hm : p.val % 512 < 512 := Nat.mod_lt _ (by decide)
  show k0_pay9 (stackV (commV X c) ⟨p.val / 512, hq⟩) (chunkV (X c) ⟨p.val / 512, hq⟩) (G c) (qIdx (p.val % 512) hm l) = _
  rw [qIdx_eq, norm_apply, chunkV_apply]
  simp only [stackV_apply]
  have e' : ∀ r : Fin 16, commV X c (ix2 r (⟨512 * (p.val / 512) + p.val % 512, by omega⟩ : Fin 4096))
      = ∑ j : Fin 1024, X (bwd c r) (ix2 p j) * X (bwd c r) (ix2 p j) := fun r => by rw [e, comm_apply]
  refine congrArg₂ (· * ·) (congrArg₂ (fun a b => a * Ideal.rsqrt (b * scaleW + epsW)) ?_ (Finset.sum_congr rfl fun r _ => e' r)) rfl
  exact congrArg (fun q : Fin 4096 => X c (ix2 q l)) e

end Cert.KernelIdeal.Kp

end
-- ==== Proof.Formula.lean ====
/-
  What the reference computes, element by element: gamma · x / √(mean of the row's squares + eps).
-/
module

public import proofs.«01_k».proof.Proof.Gen.ReferenceIdeal.Run
public import Idealize.ShloMosaic.Lib.Pointwise

@[expose] public section

noncomputable section

namespace Cert.ReferenceIdeal.Formula

open Cert.ReferenceIdeal Cert.ReferenceIdeal.Gen Idealize.ShloMosaic Idealize.ShloMosaic.TcCoe Idealize.SL.Sem

/-- The reference's result, of its two arguments. -/
def whole (x : S4096x16384.Idx → Elt Ideal .f32) (g : S16384.Idx → Elt Ideal .f32) : S4096x16384.Idx → Elt Ideal .bf16 :=
  truncf (F := Ideal) .bf16 (Host.divf (mulf (broadcastInDim S4096x16384 ![0, 1] bcast_S1x16384_S4096x16384_0_1
      (broadcastInDim S1x16384 ![1] bcast_S16384_S1x16384_1 g)) x)
    (broadcastInDim S4096x16384 ![0, 1] bcast_S4096x1_S4096x16384_0_1 (Host.sqrt (addf (Host.divf
      (broadcastInDim S4096x1 ![0] bcast_S4096_S4096x1_0 (Host.reduceAdd (mulf x x) (constant S_ .f32 0x00000000#32) reducesTo_S4096x16384_S4096_d1 h_S_))
      (broadcastInDim S4096x1 ![] bcast_S_S4096x1 (constant S_ .f32 0x46800000#32)))
      (broadcastInDim S4096x1 ![] bcast_S_S4096x1 (constant S_ .f32 0x3727C5AC#32)))))) bitsLt_bf16_f32

/-- The reference's result at row `p` and column `q`. -/
theorem whole_apply (x : S4096x16384.Idx → Elt Ideal .f32) (g : S16384.Idx → Elt Ideal .f32) (p : Fin 4096) (q : Fin 16384) :
    whole x g (ix2 p q)
      = Ideal.div (g (ix1 q) * x (ix2 p q))
          (Ideal.sqrt (Ideal.div (∑ j : Fin 16384, x (ix2 p j) * x (ix2 p j)) (Ideal.ofBits .f32 0x46800000#32) + Ideal.ofBits .f32 0x3727C5AC#32)) := by
  pointwise [whole]

/-- The reference terminates with its result at `whole` of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = whole (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.ReferenceIdeal.Formula

end
-- ==== Proof.Equation.lean ====
/-
  The equation between the two formulas, over the extended reals.

  `norm_eq`: for a total of squares T, x · rsqrt(T · 2⁻¹⁴ + eps) · g = (g · x) / √(T / 16384 + eps). It holds at the
  infinities too: T is not negative, so what is under the root is positive.
-/
module

public import Idealize.ShloMosaic.PureOps.Ideal
public import Idealize.ShloMosaic.Lib.IdealHost

@[expose] public section

noncomputable section

namespace Cert.Equation

open Idealize.ShloMosaic

/-- The factor's word is 1/16384. -/
theorem scale_val : Ideal.ofBits .f32 0x38800000#32 = (((1 : ℝ) / 16384 : ℝ) : EReal) := by
  simp [Ideal.ofBits, Ideal.ieee, -EReal.coe_mul]; norm_num

/-- The count's word is 16384. -/
theorem count_val : Ideal.ofBits .f32 0x46800000#32 = ((16384 : ℝ) : EReal) := by
  simp [Ideal.ofBits, Ideal.ieee, -EReal.coe_mul]; norm_num

/-- The word added under the root is positive. -/
theorem eps_pos : (0 : EReal) < Ideal.ofBits .f32 0x3727C5AC#32 := by
  have h : Ideal.ofBits .f32 0x3727C5AC#32 = (((10995116 : ℝ) * (2 : ℝ) ^ (-40 : Int) : ℝ) : EReal) := by
    simp [Ideal.ofBits, Ideal.ieee, -EReal.coe_mul]
  rw [h]
  exact EReal.coe_pos.mpr (by positivity)

/-- A square is not negative. -/
theorem sq_nonneg (x : EReal) : 0 ≤ x * x := by
  rcases le_total 0 x with h | h
  · exact mul_nonneg h h
  · exact EReal.mul_nonneg_iff.mpr (Or.inr ⟨h, h⟩)

/-- Dividing by the count is multiplying by the factor. -/
theorem mean_eq (T : EReal) : Ideal.div T (Ideal.ofBits .f32 0x46800000#32) = T * Ideal.ofBits .f32 0x38800000#32 := by
  rw [count_val, scale_val]
  unfold Ideal.div
  rw [if_neg (by exact_mod_cast (by norm_num : (16384 : ℝ) ≠ 0)), ← EReal.coe_inv]
  norm_num

/-- Dividing by the root of a positive value is multiplying by its reciprocal root. -/
theorem div_sqrt (a v : EReal) (hv : 0 < v) : Ideal.div a (Ideal.sqrt v) = a * Ideal.rsqrt v := by
  induction v using EReal.rec with
  | bot => exact absurd hv (by simp)
  | top =>
    rw [Ideal.sqrt_top, Ideal.rsqrt_top]
    unfold Ideal.div
    rw [if_neg (by simp), EReal.inv_top]
  | coe r =>
    have hr : 0 < r := EReal.coe_pos.mp hv
    have hs : Real.sqrt r ≠ 0 := (Real.sqrt_pos.mpr hr).ne'
    rw [Ideal.sqrt_coe, Ideal.rsqrt_coe, if_neg hr.le.not_gt, if_neg hr.le.not_gt, if_neg hr.ne']
    unfold Ideal.div
    rw [if_neg (by exact_mod_cast hs), EReal.coe_inv]

/-- The kernel's element is the reference's, for a total that is not negative. -/
theorem norm_eq (x g T : EReal) (hT : 0 ≤ T) :
    x * Ideal.rsqrt (T * Ideal.ofBits .f32 0x38800000#32 + Ideal.ofBits .f32 0x3727C5AC#32) * g
      = Ideal.div (g * x) (Ideal.sqrt (Ideal.div T (Ideal.ofBits .f32 0x46800000#32) + Ideal.ofBits .f32 0x3727C5AC#32)) := by
  have hs : (0 : EReal) ≤ Ideal.ofBits .f32 0x38800000#32 := by
    rw [scale_val]; exact EReal.coe_nonneg.mpr (by norm_num)
  rw [mean_eq, div_sqrt _ _ (lt_of_lt_of_le eps_pos (le_add_of_nonneg_left (mul_nonneg hT hs)))]
  rw [mul_comm g x, mul_assoc, mul_assoc, mul_comm g]

/-- A sum over sixteen blocks of 1024 is the sum over all 16384. -/
theorem sum_blocks (f : Fin 16384 → EReal) :
    ∑ d : Fin 16, ∑ j : Fin 1024, f ⟨1024 * d.val + j.val, by omega⟩ = ∑ q : Fin 16384, f q := by
  rw [← Fintype.sum_prod_type' (f := fun (d : Fin 16) (j : Fin 1024) => f ⟨1024 * d.val + j.val, by omega⟩)]
  refine Fintype.sum_equiv (finProdFinEquiv (m := 16) (n := 1024)) _ _ fun y => congrArg f (Fin.ext ?_)
  show 1024 * y.1.val + y.2.val = y.2.val + 1024 * y.1.val
  omega

end Cert.Equation

end
-- ==== Proof.Columns.lean ====
/-
  The result of every device is its columns of the reference's result.

  Device `d` holds columns 1024·d … 1024·d + 1023 of the array and of gamma. The sixteen devices before a device are all
  of them, in another order, so the total of their sums of squares is the sum over the whole row.
-/
module

public import proofs.«01_k».proof.Proof.Block
public import proofs.«01_k».proof.Proof.Cells
public import proofs.«01_k».proof.Proof.Formula
public import proofs.«01_k».proof.Proof.Equation
public import Idealize.ShloMosaic.Lib.Layout

@[expose] public section

noncomputable section

namespace Cert.Columns

open Idealize.ShloMosaic Cert.KernelIdeal Cert.KernelIdeal.Kp

variable (x : (⟨2, ![4096, 16384]⟩ : Shape).Idx → EReal) (g : (⟨1, ![16384]⟩ : Shape).Idx → EReal)

/-- Column `l` of device `d`'s block, as a column of the whole. -/
def col (d : Fin 16) (l : Fin 1024) : Fin 16384 := ⟨1024 * d.val + l.val, by omega⟩

/-- An element of a block of columns of a matrix. -/
theorem block2 {α : Type} (v : (⟨2, ![4096, 16384]⟩ : Shape).Idx → α) (d : Fin 16) (p : Fin 4096) (l : Fin 1024) :
    Layout.block ⟨2, ![4096, 1024]⟩ ⟨2, ![4096, 16384]⟩ 1 16 d v (by decide) (ix2 p l) = v (ix2 p (col d l)) := by
  rw [Layout.block_apply]
  refine congrArg v (funext fun a => Fin.ext ?_)
  rw [Layout.Tiles.idx_val]
  match a with
  | ⟨0, _⟩ => rfl
  | ⟨1, _⟩ => show d.val * 1024 + l.val = 1024 * d.val + l.val; omega

/-- An element of a block of a vector. -/
theorem block1 {α : Type} (v : (⟨1, ![16384]⟩ : Shape).Idx → α) (d : Fin 16) (l : Fin 1024) :
    Layout.block ⟨1, ![1024]⟩ ⟨1, ![16384]⟩ 0 16 d v (by decide) (ix1 l) = v (ix1 (col d l)) := by
  rw [Layout.block_apply]
  refine congrArg v (funext fun a => Fin.ext ?_)
  rw [Layout.Tiles.idx_val]
  match a with
  | ⟨0, _⟩ => show d.val * 1024 + l.val = 1024 * d.val + l.val; omega

/-- Summing over the devices before `c` is summing over the devices. -/
theorem sum_bwd (c : Dev nD) (f : Dev nD → EReal) : ∑ r : Fin 16, f (bwd c r) = ∑ d : Fin 16, f d := by
  refine Fintype.sum_bijective (fun r => bwd c r) ?_ _ _ fun _ => rfl
  revert c; decide

/-- The total a device forms of row `p` is the sum of the squares of the whole row. -/
theorem total (X : Dev nD → S4096x1024.Idx → Elt Ideal .f32)
    (hX : ∀ d : Dev nD, X d = Layout.block ⟨2, ![4096, 1024]⟩ ⟨2, ![4096, 16384]⟩ 1 16 d x) (c : Dev nD) (p : Fin 4096) :
    ∑ r : Fin 16, ∑ j : Fin 1024, X (bwd c r) (ix2 p j) * X (bwd c r) (ix2 p j) = ∑ q : Fin 16384, x (ix2 p q) * x (ix2 p q) := by
  rw [sum_bwd c fun d => ∑ j : Fin 1024, X d (ix2 p j) * X d (ix2 p j)]
  rw [← Equation.sum_blocks fun q => x (ix2 p q) * x (ix2 p q)]
  refine Finset.sum_congr rfl fun d _ => Finset.sum_congr rfl fun j _ => ?_
  rw [hX d, block2]; rfl

/-- Each device's result is its columns of the reference's. -/
theorem result_block (X : Dev nD → S4096x1024.Idx → Elt Ideal .f32) (G : Dev nD → S1024.Idx → Elt Ideal .f32)
    (hX : ∀ d : Dev nD, X d = Layout.block ⟨2, ![4096, 1024]⟩ ⟨2, ![4096, 16384]⟩ 1 16 d x)
    (hG : ∀ d : Dev nD, G d = Layout.block ⟨1, ![1024]⟩ ⟨1, ![16384]⟩ 0 16 d g) (c : Dev nD) :
    outV X G c = Layout.block ⟨2, ![4096, 1024]⟩ ⟨2, ![4096, 16384]⟩ 1 16 c (Cert.ReferenceIdeal.Formula.whole x g) := by
  funext i
  obtain ⟨p, l, rfl⟩ : ∃ (p : Fin 4096) (l : Fin 1024), i = ix2 p l := ⟨i 0, i 1, by
    funext a; match a with
    | ⟨0, _⟩ => rfl
    | ⟨1, _⟩ => rfl⟩
  rw [out_apply, total x X hX, block2, Cert.ReferenceIdeal.Formula.whole_apply, hX c, hG c, block2, block1]
  exact Equation.norm_eq _ _ _ (Finset.sum_nonneg fun _ _ => Equation.sq_nonneg _)

end Cert.Columns

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Columns
public import Idealize.ShloMosaic.Adequacy
public import Idealize.ShloMosaic.Init

@[expose] public section

noncomputable section

namespace Cert.Proof

open Idealize.ShloMosaic Idealize.SL.Sem Cert.Kernel

/-- The kernel runs at the machine's words, leaves its arguments, and every counter ends at zero: the ideal
    program is the same text, so its run at any floats is this one too. -/
theorem frame_kernel : Cert.quiescent_Kernel := fun m ρ _ => by
  rw [Cert.Same.defs_same]
  exact (θ_run Cert.KernelIdeal.defs _ _).mono (fun _ h => ⟨fun c => ⟨(h.1 c).1, (h.1 c).2.1⟩, h.2⟩)
    (Cert.KernelIdeal.Kp.run_main (F := Bits) m ρ)

/-- The kernel runs over the extended reals, leaves its arguments, and every counter ends at zero. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Kp.run_main (F := Ideal) m ρ)

/-- The reference runs over the extended reals and leaves its arguments; it has no counter. -/
theorem frame_referenceIdeal : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- From memories where each device holds its columns of the reference's arrays, both programs run and each device's
    result is its columns of the reference's result. -/
theorem value : Cert.algebraic_KernelIdeal_ReferenceIdeal := fun m g m' g' _ h =>
  ⟨Cert.ReferenceIdeal.Formula.whole _ _,
    (θ_run Cert.KernelIdeal.defs _ _).mono
      (fun _ hr c => ⟨(hr.1 c).2.2.trans (Cert.Columns.result_block _ _ _ _ (fun d => (h d).1) (fun d => (h d).2) c), (hr.1 c).1, (hr.1 c).2.1⟩)
      (Cert.KernelIdeal.Kp.run_main (F := Ideal) m g),
    (θ_run Cert.ReferenceIdeal.defs _ _).mono (fun _ hr => hr 0) (Cert.ReferenceIdeal.Formula.run m' g')⟩

/-- All the claims together. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
